-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x256 : Shape := ⟨3, ![4, 2048, 256]⟩
abbrev S8192x256 : Shape := ⟨2, ![8192, 256]⟩
abbrev S8192x8192 : Shape := ⟨2, ![8192, 8192]⟩
abbrev S4x2048x8192 : Shape := ⟨3, ![4, 2048, 8192]⟩
abbrev S256x256 : Shape := ⟨2, ![256, 256]⟩
abbrev S4x256x8192 : Shape := ⟨3, ![4, 256, 8192]⟩
abbrev S4 : Shape := ⟨1, ![4]⟩
abbrev S1 : Shape := ⟨1, ![1]⟩
abbrev S_ : Shape := ⟨0, ![]⟩
abbrev S256x8192 : Shape := ⟨2, ![256, 8192]⟩
abbrev S1x256x8192 : Shape := ⟨3, ![1, 256, 8192]⟩

abbrev nBuf : Space → Nat
  | .hbm => 5
  | .vmem => 4
  | .smem => 0
  | _ => 0

abbrev bufTy : (tb : Table) → Fin (tcTables nBuf tb) → BufTy
  | .hbm, ⟨0, _⟩ => ⟨S4x2048x256, .f32⟩
  | .hbm, ⟨1, _⟩ => ⟨S8192x256, .i8⟩
  | .hbm, ⟨2, _⟩ => ⟨S8192x256, .f32⟩
  | .hbm, ⟨3, _⟩ => ⟨S8192x8192, .f32⟩
  | .hbm, ⟨4, _⟩ => ⟨S4x2048x8192, .f32⟩
  | .local _ .vmem, ⟨0, _⟩ => ⟨S256x256, .f32⟩
  | .local _ .vmem, ⟨1, _⟩ => ⟨S256x256, .f32⟩
  | .local _ .vmem, ⟨2, _⟩ => ⟨S8192x256, .i8⟩
  | .local _ .vmem, ⟨3, _⟩ => ⟨S4x256x8192, .f32⟩
  | _, _ => ⟨S4x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c4_i32_0 : BitVec 32 := 4#32
  let v1 : BitVec 1 := Scalar.cmpi .sge arg0 c4_i32_0
  let v2 : BitVec 32 := Scalar.extui v1
  let c0_i32 : BitVec 32 := 0#32
  let v3 : BitVec 1 := Scalar.cmpi .ne v2 c0_i32
  v3

def k0_off1 (i : grid0.Coords) : Fin 1 → Nat :=
  let arg0 : BitVec 32 := BitVec.ofNat 32 (i 0).val
  let c4_i32 : BitVec 32 := 4#32
  let v0 : BitVec 32 := Scalar.remsi arg0 c4_i32
  ![v0.toNat]
def k0_off2 (i : grid0.Coords) : Fin 2 → Nat :=
  let arg0 : BitVec 32 := BitVec.ofNat 32 (i 0).val
  let c4_i32_13 : BitVec 32 := 4#32
  let v28 : BitVec 32 := Scalar.subi arg0 c4_i32_13
  let c256_i32_14 : BitVec 32 := 256#32
  let v29 : BitVec 32 := Scalar.muli v28 c256_i32_14
  let c0_i32_15 : BitVec 32 := 0#32
  ![v29.toNat, 0]
def k0_off3 (i : grid0.Coords) : Fin 3 → Nat :=
  let arg0 : BitVec 32 := BitVec.ofNat 32 (i 0).val
  let c4_i32 : BitVec 32 := 4#32
  let v0 : BitVec 32 := Scalar.remsi arg0 c4_i32
  let c0_i32_16 : BitVec 32 := 0#32
  let c0_i32_17 : BitVec 32 := 0#32
  ![v0.toNat, 0, 0]
def k0_off4 (i : grid0.Coords) : Fin 3 → Nat :=
  let arg0 : BitVec 32 := BitVec.ofNat 32 (i 0).val
  let c4_i32 : BitVec 32 := 4#32
  let v0 : BitVec 32 := Scalar.remsi arg0 c4_i32
  let v15 : Index := Scalar.indexCast v0
  let c0_7 : Index := 0#32
  let c0_8 : Index := 0#32
  ![v15.toNat, 0, 0]
def k0_off5 (i : grid0.Coords) : Fin 1 → Nat :=
  let arg0 : BitVec 32 := BitVec.ofNat 32 (i 0).val
  let c4_i32 : BitVec 32 := 4#32
  let v0 : BitVec 32 := Scalar.remsi arg0 c4_i32
  ![v0.toNat]
def k0_off6 (i : grid0.Coords) : Fin 2 → Nat :=
  let arg0 : BitVec 32 := BitVec.ofNat 32 (i 0).val
  let c256_i32 : BitVec 32 := 256#32
  let v19 : BitVec 32 := Scalar.muli arg0 c256_i32
  let c0_i32_9 : BitVec 32 := 0#32
  ![v19.toNat, 0]
def k0_off7 (i : grid0.Coords) : Fin 3 → Nat :=
  let arg0 : BitVec 32 := BitVec.ofNat 32 (i 0).val
  let c4_i32 : BitVec 32 := 4#32
  let v0 : BitVec 32 := Scalar.remsi arg0 c4_i32
  let c0_i32_10 : BitVec 32 := 0#32
  let c0_i32_11 : BitVec 32 := 0#32
  ![v0.toNat, 0, 0]
def k0_cond2 (i : grid0.Coords) : BitVec 1 :=
  let arg0 : BitVec 32 := BitVec.ofNat 32 (i 0).val
  let c31_i32 : BitVec 32 := 31#32
  let v25 : BitVec 1 := Scalar.cmpi .eq arg0 c31_i32
  let v26 : BitVec 32 := Scalar.extui v25
  let c0_i32_12 : BitVec 32 := 0#32
  let v27 : BitVec 1 := Scalar.cmpi .ne v26 c0_i32_12
  v27

def k0_off8 (i : grid0.Coords) (c0_i32_13 : BitVec 32) : Fin 1 → Nat :=
  let arg0 : BitVec 32 := BitVec.ofNat 32 (i 0).val
  let c3_i32 : BitVec 32 := 3#32
  let v28 : BitVec 32 := Scalar.subi arg0 c3_i32
  let v29 : BitVec 32 := Scalar.addi v28 c0_i32_13
  let c4_i32_16 : BitVec 32 := 4#32
  let v32 : BitVec 32 := Scalar.remsi v29 c4_i32_16
  ![v32.toNat]
def k0_off9 (i : grid0.Coords) (c0_i32_13 : BitVec 32) : Fin 2 → Nat :=
  let arg0 : BitVec 32 := BitVec.ofNat 32 (i 0).val
  let c3_i32 : BitVec 32 := 3#32
  let v28 : BitVec 32 := Scalar.subi arg0 c3_i32
  let v29 : BitVec 32 := Scalar.addi v28 c0_i32_13
  let c256_i32_15 : BitVec 32 := 256#32
  let v31 : BitVec 32 := Scalar.muli v29 c256_i32_15
  let c0_i32_17 : BitVec 32 := 0#32
  ![v31.toNat, 0]
def k0_off10 (i : grid0.Coords) (c0_i32_13 : BitVec 32) : Fin 3 → Nat :=
  let arg0 : BitVec 32 := BitVec.ofNat 32 (i 0).val
  let c3_i32 : BitVec 32 := 3#32
  let v28 : BitVec 32 := Scalar.subi arg0 c3_i32
  let v29 : BitVec 32 := Scalar.addi v28 c0_i32_13
  let c4_i32_14 : BitVec 32 := 4#32
  let v30 : BitVec 32 := Scalar.remsi v29 c4_i32_14
  let c0_i32_18 : BitVec 32 := 0#32
  let c0_i32_19 : BitVec 32 := 0#32
  ![v30.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S4x2048x256 : Shape := ⟨3, ![4, 2048, 256]⟩
abbrev S8192x256 : Shape := ⟨2, ![8192, 256]⟩
abbrev S_ : Shape := ⟨0, ![]⟩
abbrev S256x8192 : Shape := ⟨2, ![256, 8192]⟩
abbrev S4x2048x8192 : Shape := ⟨3, ![4, 2048, 8192]⟩

abbrev nBuf : Space → Nat
  | .hbm => 13
  | .vmem => 0
  | .smem => 0
  | _ => 0

abbrev bufTy : (tb : Table) → Fin (tcTables nBuf tb) → BufTy
  | .hbm, ⟨0, _⟩ => ⟨S4x2048x256, .f32⟩
  | .hbm, ⟨1, _⟩ => ⟨S8192x256, .i8⟩
  | .hbm, ⟨2, _⟩ => ⟨S4x2048x256, .f32⟩
  | .hbm, ⟨3, _⟩ => ⟨S_, .f32⟩
  | .hbm, ⟨4, _⟩ => ⟨S4x2048x256, .f32⟩
  | .hbm, ⟨5, _⟩ => ⟨S4x2048x256, .i1⟩
  | .hbm, ⟨6, _⟩ => ⟨S_, .f32⟩
  | .hbm, ⟨7, _⟩ => ⟨S4x2048x256, .f32⟩
  | .hbm, ⟨8, _⟩ => ⟨S4x2048x256, .f32⟩
  | .hbm, ⟨9, _⟩ => ⟨S8192x256, .i32⟩
  | .hbm, ⟨10, _⟩ => ⟨S8192x256, .f32⟩
  | .hbm, ⟨11, _⟩ => ⟨S256x8192, .f32⟩
  | .hbm, ⟨12, _⟩ => ⟨S4x2048x8192, .f32⟩
  | _, _ => ⟨S4x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.Setup.lean ====
/- What the launch of the kernel is stated over: `main` read as host lines, the kernel's region, host lines; what
   the arrays hold when the region starts; and each input window's block. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffixV

@[expose] public section

set_option maxRecDepth 16384

noncomputable section

namespace Cert.KernelIdeal.Vote

open Cert.KernelIdeal.Gen
open Idealize.ShloMosaic Idealize.ShloMosaic.TcCoe
open Idealize.SL Idealize.SL.RA Idealize.SL.BI Idealize.SL.Sem
open Idealize.ShloMosaic.Pipeline (Dat Cfg Window)

variable {F : FTy → Type} [FloatOps F]
variable (m : (ℓ : Loc nD τ sig) → Buf (Elt F) ℓ)

/-- What core `c`'s buffers hold when the region starts: the launch memory after the first host line, which lays
    `h` out as 8192 rows. -/
abbrev V0 (c : Dev nD) : Valuation τ sig (Elt F) := StableHlo.after (List.flatten [hostOps0]) (fun b => m (c, b))

/-- The same, read at a buffer of the core. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

set_option maxHeartbeats 800000 in
/-- `main` is the first host line, the region, and the last host line. -/
theorem hmain (𝒱₀ : Variants) :
    Pipeline.HMainK (Ix := Unit) (Name := ℕ) (U := Pipeline.UD sig nD τ) (Lvl := ℕ) cfgs 0 defs₀ 𝒱₀ m
      (main (F := F)) (V m) (fun _ => Pipeline.chain ([hostOps1].map StableHlo.seq)) :=
  Pipeline.hmain_around cfgs 0 defs₀ 𝒱₀ m main [hostOps0] [hostOps1]
    (by simp only [List.Forall]; exact hostOps0_sub) (by simp only [List.Forall]; exact hostOps0_fresh) main_chain

/-- The one list of host lines after the region. -/
theorem mem_after {ops : List (HloOp τ sig (Elt F))} (h : ops ∈ [hostOps1]) : ops = hostOps1 :=
  List.mem_singleton.mp h

/-- The last host line touches only the windows' arrays and the buffers beside them. -/
theorem after_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  rw [mem_after hops] at hop
  exact Pipeline.sub_ucRefs op ((List.forall_iff_forall_mem.mp hostOps1_sub) op hop)

/-- It allocates nothing. -/
theorem after_fresh : ∀ ops ∈ ([hostOps1] : List (List (HloOp τ sig (Elt F)))), ∀ op ∈ ops, op.fresh = ∅ := by
  intro ops hops op hop
  rw [mem_after hops] at hop
  exact (List.forall_iff_forall_mem.mp hostOps1_fresh) op hop

/-- It writes the result only, which no window stages. -/
theorem after_keeps : ∀ ops ∈ ([hostOps1] : List (List (HloOp τ sig (Elt F)))), ∀ op ∈ ops,
    ∀ w, Proc.devRef .tc (Pipeline.arrRef spec0 w) ∉ op.writes := by
  intro ops hops op hop
  rw [mem_after hops] at hop
  obtain rfl := List.mem_singleton.mp hop
  intro w
  fin_cases w <;> simp only [StableHlo.reshape_writes, Finset.mem_singleton] <;>
    exact StableHlo.devRef_ne_of_ne (by decide)

/-- A buffer the first host line does not write is, when the region starts, as launched. -/
theorem V_of_ne (c : Dev nD) (b : Ref sig .tc) (h : b ≠ main_call0_v0) :
    V m c b = m ((c : Thread nD τ).loc b) :=
  StableHlo.after_of_forall_not_mem (b := Proc.devRef .tc b) _ _ (List.forall_iff_forall_mem.mp (by
    simp only [hostOps0, List.flatten_cons, List.flatten_nil, List.append_nil, List.Forall,
      StableHlo.reshape_writes, Finset.mem_singleton]
    exact StableHlo.devRef_ne_of_ne h))

/-- Window `w`'s block at point `t`: its rows of the window's array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The window of `h` shows the body its block at every point. -/
theorem before_h {c : Dev nD} (dat : Dat τ (Elt F) Unit ℕ (Pipeline.UD sig nD τ) ℕ cfg0 c)
    (hA : dat.A 0 = V m c (Pipeline.arrRef spec0 0)) (hafter : ∀ t, dat.after 0 t = iblk m c 0 t)
    (t : Fin cfg0.N) (d) : dat.before 0 t d = iblk m c 0 t :=
  (dat.before_in_eq_fetched 0 rfl (fun _ => rfl) (fun _ _ _ => rfl)
    (fun t => by rw [hafter]; unfold Dat.blockOf iblk; rw [hA]; try rfl) t d).trans
    (by unfold Dat.fetched Dat.blockOf iblk; rw [hA]; try rfl)

/-- The window of the codebook shows the body the whole codebook at every point. -/
theorem before_cb {c : Dev nD} (dat : Dat τ (Elt F) Unit ℕ (Pipeline.UD sig nD τ) ℕ cfg0 c)
    (hA : dat.A 1 = V m c (Pipeline.arrRef spec0 1)) (hafter : ∀ t, dat.after 1 t = iblk m c 1 t)
    (t : Fin cfg0.N) (d) : dat.before 1 t d = iblk m c 1 t :=
  (dat.before_in_eq_fetched 1 rfl (fun _ => rfl) (fun _ _ _ => rfl)
    (fun t => by rw [hafter]; unfold Dat.blockOf iblk; rw [hA]; try rfl) t d).trans
    (by unfold Dat.fetched Dat.blockOf iblk; rw [hA]; try rfl)

end Cert.KernelIdeal.Vote

end
-- ==== Proof.RingSteps.lean ====
/-
  The bookkeeping of a write-behind ring whose groups are each waited for as many steps later as there are groups, for any
  number `k + 1` of groups: what the ring holds before step `p` and before step `p + 1`, with the group that step `p` uses
  taken apart from the `k` groups that only ride through the step.

  The library states the invariant (`Ring.AtB`) for any number of groups and any depth and opens it for two groups. The
  lemmas here open it for any number of groups when depth and number agree: step `p` finds its own group at role 0, and the
  role a riding group has before step `p + 1` is one less than its role before step `p`.
-/
module

public import Idealize.ShloMosaic.Lib.Ring
public import Idealize.ShloMosaic.Lib.Ring.WriteBehind

@[expose] public section

noncomputable section

namespace Cert.RingSteps

open Idealize.ShloMosaic
open Idealize.SL Idealize.SL.BI Idealize.SL.RA
open scoped Idealize.SL.BI
open Idealize.SL.BI.BIBase Idealize.SL.BI.Laws Idealize.SL.Sem Idealize.SL.ProofMode

variable {M : Type _} [URA M]

/-- Nothing beside an assertion is the assertion. -/
theorem emp_sep_eq (P : sProp M) : iprop(BI.emp ∗ P) = P := BI.equiv_iff.mp BI.emp_sep

/-- A family over `Fin (k + 1)` is its first member and the later ones. -/
theorem bigSep_first {k : ℕ} (Φ : Fin (k + 1) → sProp M) :
    bigSep Finset.univ Φ = iprop(Φ 0 ∗ bigSep Finset.univ fun j : Fin k => Φ j.succ) := by
  rw [Fin.univ_succ, Finset.cons_eq_insert, Ring.bigSep_put (by simp), BI.bigSep_map]; rfl

/-- A family over `Fin (k + 1)` is its last member and the earlier ones. -/
theorem bigSep_last {k : ℕ} (Φ : Fin (k + 1) → sProp M) :
    bigSep Finset.univ Φ = iprop(Φ (Fin.last k) ∗ bigSep Finset.univ fun j : Fin k => Φ j.castSucc) := by
  rw [Fin.univ_castSuccEmb, Finset.cons_eq_insert, Ring.bigSep_put (by simp), BI.bigSep_map]; rfl

section Roles

variable {k NB : ℕ} [NeZero NB]
variable (free : Fin (k + 1) → sProp M) (infl : Fin (k + 1) → Fin NB → sProp M) (ahead behind : Fin NB → sProp M)

/-- The groups that ride through step `p`: every group but the one step `p` itself uses. -/
def riding (p : ℕ) : sProp M := bigSep Finset.univ fun j : Fin k => Ring.roleB (k + 1) free infl p j.succ

/-- A riding group's role before step `p + 1` is one less than its role before step `p`. -/
theorem role_shift (p : ℕ) (j : Fin k) :
    Ring.roleB (k + 1) free infl (p + 1) j.castSucc = Ring.roleB (k + 1) free infl p j.succ := by
  unfold Ring.roleB
  simp only [Fin.val_succ, Fin.val_castSucc, show p + 1 + j.val = p + (j.val + 1) by omega]
  by_cases h : k + 1 ≤ p + (j.val + 1) <;> simp [h]

/-- The groups before step `p`: the one the step uses, and those that ride. -/
theorem roles_here (p : ℕ) :
    bigSep Finset.univ (Ring.roleB (k + 1) free infl p)
      = iprop(Ring.roleB (k + 1) free infl p 0 ∗ riding free infl p) := bigSep_first _

/-- The groups before step `p + 1`: the one step `p` has just sent off, and those that rode through it. -/
theorem roles_next (p : ℕ) :
    bigSep Finset.univ (Ring.roleB (k + 1) free infl (p + 1))
      = iprop(infl (Ring.sl (k + 1) p) (Ring.bk NB p) ∗ riding free infl p) := by
  rw [bigSep_last, Ring.roleB_of_infl _ _ _ _ _ (by simp only [Fin.val_last]; omega)]
  have e : Ring.sl (k + 1) (p + 1 + (Fin.last k).val) = Ring.sl (k + 1) p :=
    Fin.ext (by simp only [Fin.val_last, Ring.sl, Fin.ofNat]; rw [show p + 1 + k = p + (k + 1) by omega, Nat.add_mod_right])
  rw [e, show p + 1 + (Fin.last k).val - (k + 1) = p by simp only [Fin.val_last]; omega]
  unfold riding
  rw [BI.bigSep_congr fun j _ => role_shift free infl p j]

/-- THE RING BEFORE A STEP THAT WAITS NOTHING (`p ≤ k`): its own piece, the pieces after it, its group free, the others. -/
theorem boot_here (p : ℕ) (h : p < k + 1) (hN : p < NB) :
    Ring.AtB (k + 1) free infl ahead behind p
      = iprop((ahead (Ring.bk NB p) ∗ bigSep (Ring.aheadSet (p + 1)) ahead) ∗ free (Ring.sl (k + 1) p) ∗ riding free infl p) := by
  unfold Ring.AtB
  rw [Ring.aheadSet_open p hN, Ring.bigSep_put (Ring.bk_not_mem_aheadSet_succ p hN), Ring.behindSet_boot _ p (by omega),
    BI.bigSep_empty, emp_sep_eq, roles_here, Ring.roleB_of_free _ _ _ _ _ (by simp only [Fin.val_zero]; omega)]
  rfl

/-- and the ring after it. -/
theorem boot_next (p : ℕ) (h : p < k + 1) :
    Ring.AtB (k + 1) free infl ahead behind (p + 1)
      = iprop(bigSep (Ring.aheadSet (p + 1)) ahead ∗ infl (Ring.sl (k + 1) p) (Ring.bk NB p) ∗ riding free infl p) := by
  unfold Ring.AtB
  rw [Ring.behindSet_boot _ (p + 1) (by omega), BI.bigSep_empty, emp_sep_eq, roles_next]

/-- THE RING BEFORE A STEP THAT WAITS (`k < p`): its own piece, the pieces after it, the pieces already landed, its group
    in flight with the copy of step `p - (k + 1)`, the others. -/
theorem steady_here (p : ℕ) (h : k + 1 ≤ p) (hN : p < NB) :
    Ring.AtB (k + 1) free infl ahead behind p
      = iprop((ahead (Ring.bk NB p) ∗ bigSep (Ring.aheadSet (p + 1)) ahead) ∗ bigSep (Ring.behindSet (k + 1) p) behind
          ∗ infl (Ring.sl (k + 1) p) (Ring.bk NB (p - (k + 1))) ∗ riding free infl p) := by
  unfold Ring.AtB
  rw [Ring.aheadSet_open p hN, Ring.bigSep_put (Ring.bk_not_mem_aheadSet_succ p hN), roles_here,
    Ring.roleB_of_infl _ _ _ _ _ (by simp only [Fin.val_zero]; omega)]
  rfl

/-- and the ring after it: the piece it waited for has landed, its group is in flight with its own copy. -/
theorem steady_next (p : ℕ) (h : k + 1 ≤ p) (hN : p < NB) :
    Ring.AtB (k + 1) free infl ahead behind (p + 1)
      = iprop(bigSep (Ring.aheadSet (p + 1)) ahead ∗ (behind (Ring.bk NB (p - (k + 1))) ∗ bigSep (Ring.behindSet (k + 1) p) behind)
          ∗ infl (Ring.sl (k + 1) p) (Ring.bk NB p) ∗ riding free infl p) := by
  unfold Ring.AtB
  rw [Ring.behindSet_close (k + 1) p h hN, Ring.bigSep_put (Ring.bk_not_mem_behindSet (k + 1) p h hN), roles_next]

end Roles

section Four

variable {NB : ℕ} [NeZero NB]
variable (free : Fin 4 → sProp M) (infl : Fin 4 → Fin NB → sProp M) (ahead behind : Fin NB → sProp M)

/-- With four groups, all in flight, the riding groups are those of the three steps before. -/
theorem riding_four (p : ℕ) (h : 3 ≤ p) :
    riding (k := 3) free infl p = iprop(infl (Ring.sl 4 (p + 1)) (Ring.bk NB (p - 3))
      ∗ infl (Ring.sl 4 (p + 2)) (Ring.bk NB (p - 2)) ∗ infl (Ring.sl 4 (p + 3)) (Ring.bk NB (p - 1))) := by
  unfold riding
  rw [Ring.bigSep_fin3, Ring.roleB_of_infl _ _ _ _ _ (by simp; omega), Ring.roleB_of_infl _ _ _ _ _ (by simp; omega),
    Ring.roleB_of_infl _ _ _ _ _ (by simp; omega)]
  simp only [show p + (Fin.succ (0 : Fin 3)).val = p + 1 from rfl, show p + (Fin.succ (1 : Fin 3)).val = p + 2 from rfl,
    show p + (Fin.succ (2 : Fin 3)).val = p + 3 from rfl, show p + 1 - (3 + 1) = p - 3 by omega,
    show p + 2 - (3 + 1) = p - 2 by omega, show p + 3 - (3 + 1) = p - 1 by omega]

/-- The four groups counted from a step. -/
theorem four_from (p : ℕ) : bigSep Finset.univ free
    = iprop(free (Ring.sl 4 p) ∗ free (Ring.sl 4 (p + 1)) ∗ free (Ring.sl 4 (p + 2)) ∗ free (Ring.sl 4 (p + 3))) := by
  have hinj : Function.Injective fun j : Fin 4 => (Ring.sl 4 (p + j.val) : Fin 4) := by
    intro a b h
    have h' : (p + a.val) % 4 = (p + b.val) % 4 := congrArg Fin.val h
    exact Fin.ext (by omega)
  rw [BI.bigSep_univ_equiv (Equiv.ofBijective _ (Finite.injective_iff_bijective.mp hinj)) free, bigSep_first, Ring.bigSep_fin3]
  rfl

/-- THE RING DRAINED BY ITS LAST STEP `p`: the last four pieces have landed beside the earlier ones, every group is free. -/
theorem drained_four (p : ℕ) (h : 4 ≤ p) (hN : p + 1 = NB) :
    Ring.AtBEnd free behind
      = iprop((behind (Ring.bk NB p) ∗ behind (Ring.bk NB (p - 1)) ∗ behind (Ring.bk NB (p - 2)) ∗ behind (Ring.bk NB (p - 3))
            ∗ behind (Ring.bk NB (p - 4)) ∗ bigSep (Ring.behindSet 4 p) behind)
          ∗ free (Ring.sl 4 p) ∗ free (Ring.sl 4 (p + 1)) ∗ free (Ring.sl 4 (p + 2)) ∗ free (Ring.sl 4 (p + 3))) := by
  unfold Ring.AtBEnd
  have hb : ∀ q, q < NB → (Ring.bk NB q).val = q := fun q hq => Ring.bk_val hq
  have hset : (Finset.univ : Finset (Fin NB))
      = insert (Ring.bk NB p) (insert (Ring.bk NB (p - 1)) (insert (Ring.bk NB (p - 2)) (insert (Ring.bk NB (p - 3))
          (insert (Ring.bk NB (p - 4)) (Ring.behindSet 4 p))))) := by
    ext u
    have := u.isLt
    simp only [Finset.mem_univ, Finset.mem_insert, Ring.mem_behindSet, Fin.ext_iff, hb p (by omega), hb (p - 1) (by omega),
      hb (p - 2) (by omega), hb (p - 3) (by omega), hb (p - 4) (by omega), true_iff]
    omega
  rw [four_from free p, hset]
  rw [Ring.bigSep_put, Ring.bigSep_put, Ring.bigSep_put, Ring.bigSep_put, Ring.bigSep_put]
  all_goals
    simp only [Finset.mem_insert, Ring.mem_behindSet, Fin.ext_iff, hb p (by omega), hb (p - 1) (by omega),
      hb (p - 2) (by omega), hb (p - 3) (by omega), hb (p - 4) (by omega)]
    omega

end Four

end Cert.RingSteps

end
-- ==== Proof.Tiles.lean ====
/- The kernel writes its result behind: step `t` puts its product into tile `t mod 4` of a scratch buffer and starts
   a copy of that tile to piece `t` of the result, counted on semaphore `t mod 4`. This module names the four
   tiles, the four semaphores and the 32 pieces, and says what each of them is held at: nothing in particular, or
   the product of its step. -/
module

public import proofs.«01_k».proof.Proof.Setup
public import proofs.«01_k».proof.Proof.RingSteps
public import Idealize.ShloMosaic.Lib.Ring
public import Idealize.ShloMosaic.Lib.Ring.WriteBehind
public import Idealize.ShloMosaic.Lib.Tactic
public import Idealize.ShloMosaic.Lib.WordCmp

@[expose] public section

set_option maxRecDepth 16384

noncomputable section

namespace Cert.KernelIdeal.Vote

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

instance : NeZero grid0.N := ⟨by rw [N_0]; decide⟩

/-! ## When the body waits and when it drains -/

/-- The body first waits for the copy of four steps ago: from step 4 on. -/
abbrev Waits4 (i : grid0.Coords) : Prop := k0_cond1 i = 1#1
theorem waits4_iff : ∀ t : Fin grid0.N, Waits4 (grid0.coords t) ↔ 4 ≤ t.val := by decide +kernel

/-- The body waits for every copy still under way: at step 31. -/
abbrev Drains (i : grid0.Coords) : Prop := k0_cond2 i = 1#1
theorem drains_iff : ∀ t : Fin grid0.N, Drains (grid0.coords t) ↔ t.val = 31 := by decide +kernel

/-! ## The tiles, the pieces and the semaphores -/

/-- The scratch buffer of four tiles, and the result, both whole. -/
abbrev scratch : Memref sig .tc .vmem S4x256x8192 .f32 := Memref.whole cc0_scratch0
abbrev result : Memref sig .tc .hbm S8192x8192 .f32 := Memref.whole main_call0_v1

theorem tile_inb (g : Fin 4) :
    ∀ a, (![g.val, 0, 0] : Fin 3 → Nat) a + S1x256x8192.size a ≤ S4x256x8192.size a := by
  have := g.isLt; intro a; fin_cases a <;> simp <;> omega
theorem piece_inb (u : Fin 32) :
    ∀ a, (![256 * u.val, 0] : Fin 2 → Nat) a + S256x8192.size a ≤ S8192x8192.size a := by
  have := u.isLt; intro a; fin_cases a <;> simp <;> omega
theorem cell_inb (g : Fin 4) : ∀ a, (![g.val] : Fin 1 → Nat) a + S1.size a ≤ S4.size a := by
  have := g.isLt; intro a; fin_cases a; simp; omega

/-- Tile `g` of the scratch, as 256 rows. -/
def tile (g : Fin 4) : Memref sig .tc .vmem S256x8192 .f32 :=
  (scratch.slice (Rect.unit (s := S4x256x8192) ![g.val, 0, 0] S1x256x8192.size (tile_inb g)) (fun _ => rfl)).squeeze
    S256x8192 squeezes_S1x256x8192_S256x8192
/-- Piece `u` of the result: the 256 rows from row `256 u` on. -/
def piece (u : Fin 32) : Memref sig .tc .hbm S256x8192 .f32 :=
  result.slice (Rect.unit (s := S8192x8192) ![256 * u.val, 0] S256x8192.size (piece_inb u)) (fun _ => rfl)
/-- Semaphore `g`, as the body names it. -/
def cell (g : Fin 4) : DmaSems sig S_ :=
  (cc0_scratch1.slice (Rect.unit (s := S4) ![g.val] S1.size (cell_inb g))).squeeze S_ squeezes_S1_S_
/-- Semaphore `g`, as the machine numbers it. -/
abbrev cellLoc (g : Fin 4) : SemLoc sig := SemLoc.dma (cell g).sem
/-- The four semaphores' numbers. -/
theorem cellLoc_eq : ∀ g : Fin 4, cellLoc g = (![SemLoc.dma 3, SemLoc.dma 4, SemLoc.dma 5, SemLoc.dma 6] : Fin 4 → SemLoc sig) g := by decide

/-! ## What is held -/

section Held
variable (c : Dev nD)

/-- The contents of a memref's buffer on core `c`. -/
abbrev BufAt {sp : Space} {S : Shape} {e : EltTy} (M : Memref sig .tc sp S e) : Type :=
  Buf (Elt F) (M.view.loc (c : Thread nD τ))
/-- Tile `g` at `e`; semaphore `g` at zero; piece `u` at `f`. -/
abbrev tileAt (g : Fin 4) (e : BufAt (F := F) c (tile g)) : sProp 𝕄 :=
  (tile g).view.loc (c : Thread nD τ) ↦[(tile g).view.set]{fullShare} e
abbrev cellZero (g : Fin 4) : sProp 𝕄 := semVal ((c : Thread nD τ), cellLoc g) 0
abbrev pieceAt (u : Fin 32) (f : BufAt (F := F) c (piece u)) : sProp 𝕄 :=
  (piece u).view.loc (c : Thread nD τ) ↦[(piece u).view.set]{fullShare} f

variable (B : Fin 32 → S256x8192.Idx → F .f32)

/-- A free group: its semaphore at zero and its tile at anything. -/
abbrev free (g : Fin 4) : sProp 𝕄 := iprop(cellZero c g ∗ ∃ e, tileAt c g e)
/-- A piece not yet written: at anything. -/
abbrev ahead (u : Fin 32) : sProp 𝕄 := iprop(∃ f, pieceAt c u f)
/-- A piece written and waited for: it reads as step `u`'s product. -/
abbrev behind (u : Fin 32) : sProp 𝕄 :=
  iprop(∃ f, ⌜(piece u).view.read (Elt F) f = B u⌝ ∗ pieceAt c u f)
/-- Group `g` with step `u`'s copy under way: it will deliver piece `u`, reading as step `u`'s product, and give the
    tile back. -/
abbrev inFlight (g : Fin 4) (u : Fin 32) : sProp 𝕄 :=
  iprop(∃ f e, ⌜(piece u).view.read (Elt F) f = B u⌝ ∗
    Transfers.Flight countersEmb (c : Thread nD τ) (cellLoc g) default ((piece u).view.amount (cellLoc g))
      iprop(pieceAt c u f ∗ tileAt c g e))
/-- The ring before step `k`. -/
def ringAt (k : ℕ) : sProp 𝕄 := Ring.AtBΦ 4 (free c) (inFlight c B) (ahead c) (behind c B) k
end Held

/-! ## The tiles, and the pieces, do not meet and fill their buffers -/

abbrev tileOff (g : Fin 4) : Fin 3 → Nat := ![g.val, 0, 0]
abbrev tileSet (g : Fin 4) : Finset S4x256x8192.Idx :=
  (Rect.unit (s := S4x256x8192) (tileOff g) S1x256x8192.size (tile_inb g)).set
theorem tileSet_eq (g : Fin 4) : (tile g).view.set = tileSet g := by
  simp only [tile, Memref.view_squeeze, View.set_reshape]; exact View.set_slice_whole _ _

/-- A tile and its box number along each axis. -/
def tileIx (g : Fin 4) : Fin 3 → ℕ := ![g.val, 0, 0]
def tileOf (v : Fin 3 → ℕ) : Fin 4 := Fin.ofNat 4 (v 0)
theorem tileOf_ix : ∀ g : Fin 4, tileOf (tileIx g) = g := by decide +kernel
theorem tiles_disjoint (g g' : Fin 4) (h : g ≠ g') : Disjoint (tileSet g) (tileSet g') :=
  Ring.boxes_disjoint (s := S4x256x8192) S1x256x8192.size tileOff tile_inb tileIx
    (fun g a => by fin_cases a <;> simp [tileOff, tileIx]) tileOf tileOf_ix g g' h

abbrev pieceOff (u : Fin 32) : Fin 2 → Nat := ![256 * u.val, 0]
abbrev pieceSet (u : Fin 32) : Finset S8192x8192.Idx :=
  (Rect.unit (s := S8192x8192) (pieceOff u) S256x8192.size (piece_inb u)).set
theorem pieceSet_eq (u : Fin 32) : (piece u).view.set = pieceSet u := by
  simp only [piece]; exact View.set_slice_whole _ _

/-- A piece and its box number along each axis. -/
def pieceIx (u : Fin 32) : Fin 2 → ℕ := ![u.val, 0]
def pieceOf (v : Fin 2 → ℕ) : Fin 32 := Fin.ofNat 32 (v 0)
theorem pieceOf_ix : ∀ u : Fin 32, pieceOf (pieceIx u) = u := by decide +kernel
theorem pieces_disjoint (u u' : Fin 32) (h : u ≠ u') : Disjoint (pieceSet u) (pieceSet u') :=
  Ring.boxes_disjoint (s := S8192x8192) S256x8192.size pieceOff piece_inb pieceIx
    (fun u a => by fin_cases a <;> simp [pieceOff, pieceIx]; omega) pieceOf pieceOf_ix u u' h

/-! ## The body's operands at step `t` are these tiles, pieces and semaphores -/

omit [FloatOps F]

/-- A slice of the semaphores at offset `g` is semaphore `g`; likewise for a tile and a piece. -/
theorem cell_of {off : Fin 1 → Nat} {g : Fin 4} (h : off = ![g.val]) (hb) :
    (cc0_scratch1.slice (Rect.unit (s := S4) off S1.size hb)).squeeze S_ squeezes_S1_S_ = cell g :=
  congrArg (fun A : DmaSems sig S1 => A.squeeze S_ squeezes_S1_S_) (SemArray.slice_unit_congr _ h _ _)
theorem tile_of {off : Fin 3 → Nat} {g : Fin 4} (h : off = ![g.val, 0, 0]) (hb) :
    (scratch.slice (Rect.unit (s := S4x256x8192) off S1x256x8192.size hb) (fun _ => rfl)).squeeze
      S256x8192 squeezes_S1x256x8192_S256x8192 = tile g :=
  congrArg (fun M : Memref sig .tc .vmem S1x256x8192 .f32 => M.squeeze S256x8192 squeezes_S1x256x8192_S256x8192)
    (Memref.slice_unit_congr _ h _ _ (fun _ => rfl) (fun _ => rfl))
theorem piece_of {off : Fin 2 → Nat} {u : Fin 32} (h : off = ![256 * u.val, 0]) (hb) :
    result.slice (Rect.unit (s := S8192x8192) off S256x8192.size hb) (fun _ => rfl) = piece u :=
  Memref.slice_unit_congr _ h _ _ (fun _ => rfl) (fun _ => rfl)

set_option synthInstance.maxSize 4096

/-- The offsets of step `t`: group `t mod 4` throughout, piece `t`; -/
theorem off1_eq : ∀ t : Fin grid0.N, k0_off1 (grid0.coords t) = ![(Ring.sl 4 t.val).val] := by decide +kernel
theorem off3_eq : ∀ t : Fin grid0.N, k0_off3 (grid0.coords t) = ![(Ring.sl 4 t.val).val, 0, 0] := by decide +kernel
theorem off4_eq : ∀ t : Fin grid0.N, k0_off4 (grid0.coords t) = ![(Ring.sl 4 t.val).val, 0, 0] := by decide +kernel
theorem off5_eq : ∀ t : Fin grid0.N, k0_off5 (grid0.coords t) = ![(Ring.sl 4 t.val).val] := by decide +kernel
theorem off6_eq : ∀ t : Fin grid0.N, k0_off6 (grid0.coords t) = ![256 * (Ring.bk 32 t.val).val, 0] := by decide +kernel
theorem off7_eq : ∀ t : Fin grid0.N, k0_off7 (grid0.coords t) = ![(Ring.sl 4 t.val).val, 0, 0] := by decide +kernel
/-- and of the drain, copy by copy, the oldest first. -/
theorem off8_eq : ∀ t : Fin grid0.N, Drains (grid0.coords t) → ∀ j : Fin 4,
    k0_off8 (grid0.coords t) (BitVec.ofNat 32 j.val) = ![(Ring.sl 4 (t.val + 1 + j.val)).val] := by decide +kernel
theorem off10_eq : ∀ t : Fin grid0.N, Drains (grid0.coords t) → ∀ j : Fin 4,
    k0_off10 (grid0.coords t) (BitVec.ofNat 32 j.val) = ![(Ring.sl 4 (t.val + 1 + j.val)).val, 0, 0] := by decide +kernel
theorem sl_back (t : ℕ) : Ring.sl 4 (t + 1 + 3) = Ring.sl 4 t := Ring.sl_add 4 t

/-- The store into the scratch fills tile `t mod 4`. -/
instance (priority := high) closedOff4 (t : Fin grid0.N) : ClosedOff (k0_off4 (grid0.coords t)) :=
  ⟨![(Ring.sl 4 t.val).val, 0, 0], off4_eq t⟩

@[sl_canon] theorem start_cell (t : Fin grid0.N) :
    (cc0_scratch1.slice (Rect.unit (s := S4) (k0_off5 (grid0.coords t)) S1.size (k0_off5_inb (grid0.coords t)))).squeeze
      S_ squeezes_S1_S_ = cell (Ring.sl 4 t.val) := cell_of (off5_eq t) _
@[sl_canon] theorem start_cell' (t : Fin grid0.N) :
    (cc0_scratch1.slice (Rect.unit (s := S4) (k0_off5 (grid0.coords t)) ![1] (k0_off5_inb (grid0.coords t)))).squeeze
      S_ squeezes_S1_S_ = cell (Ring.sl 4 t.val) := cell_of (off5_eq t) _
@[sl_canon] theorem start_tile (t : Fin grid0.N) :
    (scratch.slice (Rect.unit (s := S4x256x8192) (k0_off7 (grid0.coords t)) S1x256x8192.size (k0_off7_inb (grid0.coords t)))
      (fun _ => rfl)).squeeze S256x8192 squeezes_S1x256x8192_S256x8192 = tile (Ring.sl 4 t.val) := tile_of (off7_eq t) _
@[sl_canon] theorem start_tile' (t : Fin grid0.N) :
    (scratch.slice (Rect.unit (s := S4x256x8192) (k0_off7 (grid0.coords t)) ![1, 256, 8192] (k0_off7_inb (grid0.coords t)))
      (fun _ => rfl)).squeeze S256x8192 squeezes_S1x256x8192_S256x8192 = tile (Ring.sl 4 t.val) := tile_of (off7_eq t) _
@[sl_canon] theorem start_piece (t : Fin grid0.N) :
    result.slice (Rect.unit (s := S8192x8192) (k0_off6 (grid0.coords t)) S256x8192.size (k0_off6_inb (grid0.coords t)))
      (fun _ => rfl) = piece (Ring.bk 32 t.val) := piece_of (off6_eq t) _
@[sl_canon] theorem start_piece' (t : Fin grid0.N) :
    result.slice (Rect.unit (s := S8192x8192) (k0_off6 (grid0.coords t)) ![256, 8192] (k0_off6_inb (grid0.coords t)))
      (fun _ => rfl) = piece (Ring.bk 32 t.val) := piece_of (off6_eq t) _
@[sl_canon] theorem wait_cell (t : Fin grid0.N) (h : Waits4 (grid0.coords t)) :
    (cc0_scratch1.slice (Rect.unit (s := S4) (k0_off1 (grid0.coords t)) S1.size (k0_off1_inb (grid0.coords t) h))).squeeze
      S_ squeezes_S1_S_ = cell (Ring.sl 4 t.val) := cell_of (off1_eq t) _
@[sl_canon] theorem wait_cell' (t : Fin grid0.N) (h : Waits4 (grid0.coords t)) :
    (cc0_scratch1.slice (Rect.unit (s := S4) (k0_off1 (grid0.coords t)) ![1] (k0_off1_inb (grid0.coords t) h))).squeeze
      S_ squeezes_S1_S_ = cell (Ring.sl 4 t.val) := cell_of (off1_eq t) _
@[sl_canon] theorem wait_tile (t : Fin grid0.N) (h : Waits4 (grid0.coords t)) :
    (scratch.slice (Rect.unit (s := S4x256x8192) (k0_off3 (grid0.coords t)) S1x256x8192.size (k0_off3_inb (grid0.coords t) h))
      (fun _ => rfl)).squeeze S256x8192 squeezes_S1x256x8192_S256x8192 = tile (Ring.sl 4 t.val) := tile_of (off3_eq t) _
@[sl_canon] theorem wait_tile' (t : Fin grid0.N) (h : Waits4 (grid0.coords t)) :
    (scratch.slice (Rect.unit (s := S4x256x8192) (k0_off3 (grid0.coords t)) ![1, 256, 8192] (k0_off3_inb (grid0.coords t) h))
      (fun _ => rfl)).squeeze S256x8192 squeezes_S1x256x8192_S256x8192 = tile (Ring.sl 4 t.val) := tile_of (off3_eq t) _

/-- The drain's four semaphores, in its order: those of steps `t - 3`, `t - 2`, `t - 1` and `t`. -/
theorem drain_cell (t : Fin grid0.N) (h : Drains (grid0.coords t)) (j : Fin 4) (hb) :
    (cc0_scratch1.slice (Rect.unit (s := S4) (k0_off8 (grid0.coords t) (BitVec.ofNat 32 j.val)) S1.size hb)).squeeze
      S_ squeezes_S1_S_ = cell (Ring.sl 4 (t.val + 1 + j.val)) := cell_of (off8_eq t h j) _
/-- The drain's four tiles. -/
theorem drain_tile (t : Fin grid0.N) (h : Drains (grid0.coords t)) (j : Fin 4) (hb) :
    (scratch.slice (Rect.unit (s := S4x256x8192) (k0_off10 (grid0.coords t) (BitVec.ofNat 32 j.val)) S1x256x8192.size hb)
      (fun _ => rfl)).squeeze S256x8192 squeezes_S1x256x8192_S256x8192 = tile (Ring.sl 4 (t.val + 1 + j.val)) :=
  tile_of (off10_eq t h j) _

@[sl_canon] theorem drain0_cell (t : Fin grid0.N) (h : Drains (grid0.coords t)) :
    (cc0_scratch1.slice (Rect.unit (s := S4) (k0_off8 (grid0.coords t) 0#32) S1.size (k0_off8_inb (grid0.coords t) h 0))).squeeze
      S_ squeezes_S1_S_ = cell (Ring.sl 4 (t.val + 1)) := drain_cell t h 0 _
@[sl_canon] theorem drain1_cell (t : Fin grid0.N) (h : Drains (grid0.coords t)) :
    (cc0_scratch1.slice (Rect.unit (s := S4) (k0_off8 (grid0.coords t) 1#32) S1.size (k0_off8_inb (grid0.coords t) h 1))).squeeze
      S_ squeezes_S1_S_ = cell (Ring.sl 4 (t.val + 2)) := drain_cell t h 1 _
@[sl_canon] theorem drain2_cell (t : Fin grid0.N) (h : Drains (grid0.coords t)) :
    (cc0_scratch1.slice (Rect.unit (s := S4) (k0_off8 (grid0.coords t) 2#32) S1.size (k0_off8_inb (grid0.coords t) h 2))).squeeze
      S_ squeezes_S1_S_ = cell (Ring.sl 4 (t.val + 3)) := drain_cell t h 2 _
@[sl_canon] theorem drain3_cell (t : Fin grid0.N) (h : Drains (grid0.coords t)) :
    (cc0_scratch1.slice (Rect.unit (s := S4) (k0_off8 (grid0.coords t) 3#32) S1.size (k0_off8_inb (grid0.coords t) h 3))).squeeze
      S_ squeezes_S1_S_ = cell (Ring.sl 4 t.val) := (drain_cell t h 3 _).trans (congrArg cell (sl_back t.val))
@[sl_canon] theorem drain0_tile (t : Fin grid0.N) (h : Drains (grid0.coords t)) :
    (scratch.slice (Rect.unit (s := S4x256x8192) (k0_off10 (grid0.coords t) 0#32) S1x256x8192.size (k0_off10_inb (grid0.coords t) h 0))
      (fun _ => rfl)).squeeze S256x8192 squeezes_S1x256x8192_S256x8192 = tile (Ring.sl 4 (t.val + 1)) := drain_tile t h 0 _
@[sl_canon] theorem drain1_tile (t : Fin grid0.N) (h : Drains (grid0.coords t)) :
    (scratch.slice (Rect.unit (s := S4x256x8192) (k0_off10 (grid0.coords t) 1#32) S1x256x8192.size (k0_off10_inb (grid0.coords t) h 1))
      (fun _ => rfl)).squeeze S256x8192 squeezes_S1x256x8192_S256x8192 = tile (Ring.sl 4 (t.val + 2)) := drain_tile t h 1 _
@[sl_canon] theorem drain2_tile (t : Fin grid0.N) (h : Drains (grid0.coords t)) :
    (scratch.slice (Rect.unit (s := S4x256x8192) (k0_off10 (grid0.coords t) 2#32) S1x256x8192.size (k0_off10_inb (grid0.coords t) h 2))
      (fun _ => rfl)).squeeze S256x8192 squeezes_S1x256x8192_S256x8192 = tile (Ring.sl 4 (t.val + 3)) := drain_tile t h 2 _
@[sl_canon] theorem drain3_tile (t : Fin grid0.N) (h : Drains (grid0.coords t)) :
    (scratch.slice (Rect.unit (s := S4x256x8192) (k0_off10 (grid0.coords t) 3#32) S1x256x8192.size (k0_off10_inb (grid0.coords t) h 3))
      (fun _ => rfl)).squeeze S256x8192 squeezes_S1x256x8192_S256x8192 = tile (Ring.sl 4 t.val) :=
  (drain_tile t h 3 _).trans (congrArg tile (sl_back t.val))
@[sl_canon] theorem drain0_cell' (t : Fin grid0.N) (h : Drains (grid0.coords t)) :
    (cc0_scratch1.slice (Rect.unit (s := S4) (k0_off8 (grid0.coords t) 0#32) ![1] (k0_off8_inb (grid0.coords t) h 0))).squeeze
      S_ squeezes_S1_S_ = cell (Ring.sl 4 (t.val + 1)) := drain0_cell t h
@[sl_canon] theorem drain1_cell' (t : Fin grid0.N) (h : Drains (grid0.coords t)) :
    (cc0_scratch1.slice (Rect.unit (s := S4) (k0_off8 (grid0.coords t) 1#32) ![1] (k0_off8_inb (grid0.coords t) h 1))).squeeze
      S_ squeezes_S1_S_ = cell (Ring.sl 4 (t.val + 2)) := drain1_cell t h
@[sl_canon] theorem drain2_cell' (t : Fin grid0.N) (h : Drains (grid0.coords t)) :
    (cc0_scratch1.slice (Rect.unit (s := S4) (k0_off8 (grid0.coords t) 2#32) ![1] (k0_off8_inb (grid0.coords t) h 2))).squeeze
      S_ squeezes_S1_S_ = cell (Ring.sl 4 (t.val + 3)) := drain2_cell t h
@[sl_canon] theorem drain3_cell' (t : Fin grid0.N) (h : Drains (grid0.coords t)) :
    (cc0_scratch1.slice (Rect.unit (s := S4) (k0_off8 (grid0.coords t) 3#32) ![1] (k0_off8_inb (grid0.coords t) h 3))).squeeze
      S_ squeezes_S1_S_ = cell (Ring.sl 4 t.val) := drain3_cell t h
@[sl_canon] theorem drain0_tile' (t : Fin grid0.N) (h : Drains (grid0.coords t)) :
    (scratch.slice (Rect.unit (s := S4x256x8192) (k0_off10 (grid0.coords t) 0#32) ![1, 256, 8192] (k0_off10_inb (grid0.coords t) h 0))
      (fun _ => rfl)).squeeze S256x8192 squeezes_S1x256x8192_S256x8192 = tile (Ring.sl 4 (t.val + 1)) := drain0_tile t h
@[sl_canon] theorem drain1_tile' (t : Fin grid0.N) (h : Drains (grid0.coords t)) :
    (scratch.slice (Rect.unit (s := S4x256x8192) (k0_off10 (grid0.coords t) 1#32) ![1, 256, 8192] (k0_off10_inb (grid0.coords t) h 1))
      (fun _ => rfl)).squeeze S256x8192 squeezes_S1x256x8192_S256x8192 = tile (Ring.sl 4 (t.val + 2)) := drain1_tile t h
@[sl_canon] theorem drain2_tile' (t : Fin grid0.N) (h : Drains (grid0.coords t)) :
    (scratch.slice (Rect.unit (s := S4x256x8192) (k0_off10 (grid0.coords t) 2#32) ![1, 256, 8192] (k0_off10_inb (grid0.coords t) h 2))
      (fun _ => rfl)).squeeze S256x8192 squeezes_S1x256x8192_S256x8192 = tile (Ring.sl 4 (t.val + 3)) := drain2_tile t h
@[sl_canon] theorem drain3_tile' (t : Fin grid0.N) (h : Drains (grid0.coords t)) :
    (scratch.slice (Rect.unit (s := S4x256x8192) (k0_off10 (grid0.coords t) 3#32) ![1, 256, 8192] (k0_off10_inb (grid0.coords t) h 3))
      (fun _ => rfl)).squeeze S256x8192 squeezes_S1x256x8192_S256x8192 = tile (Ring.sl 4 t.val) := drain3_tile t h

end Cert.KernelIdeal.Vote

end
-- ==== Proof.Steps.lean ====
/- One step of the kernel, in its three forms: the first four steps start a copy and wait for none; a later step
   first waits for the copy of four steps ago; the last step also waits for every copy still under way. -/
module

public import proofs.«01_k».proof.Proof.Tiles
public import Idealize.ShloMosaic.Lib.VecWindow

@[expose] public section

set_option maxRecDepth 16384

noncomputable section

namespace Cert.KernelIdeal.Vote

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The product of a block of `h` with the codebook, as 256 rows. -/
def product (x : Vec F S256x256 .f32) (cb : Vec F S8192x256 .i8) : S256x8192.Idx → F .f32 :=
  shapeCast S256x8192 (k0_pay1 x cb) shapeCasts_S1x256x8192_S256x8192

/-- A block loaded whole from its staging buffer is what the buffer reads as. -/
theorem load_whole {s : Shape} {e : EltTy} {M : Memref sig .tc .vmem s e} (hM : M.IsWhole) (x : s.Idx → Elt F e)
    {off : Fin s.rank → ℕ} (hb : ∀ a, off a + s.size a ≤ s.size a) :
    View.readAt (Elt F) M.view (Rect.unit off s.size hb).toLoadRect (hM.unread x) = x := by
  rw [View.readAt_full]; exact hM.read_unread x

/-- What a copy delivers: a tile stored whole with `w`, then copied to piece `u`, makes the piece read as `w`. -/
theorem delivered {off : Fin 3 → Nat} {g : Fin 4} (h : off = ![g.val, 0, 0]) (hb) (u : Fin 32)
    (f : (piece u).view.ty.Contents (Elt F)) (e : scratch.view.ty.Contents (Elt F)) (w : S1x256x8192.Idx → F .f32) :
    (piece u).view.read (Elt F) ((piece u).view.writes (Elt F) f [⟨Rect.whole S256x8192,
        ReadAs.same.apply ((tile g).view.read (Elt F)
          (View.write (Elt F) (scratch.access (Rect.unit (s := S4x256x8192) off S1x256x8192.size hb)) e w Finset.univ))⟩])
      = shapeCast S256x8192 w shapeCasts_S1x256x8192_S256x8192 := by
  subst h
  rw [View.read_writes_whole]
  funext y
  exact congrFun (View.read_write_univ (v := scratch.access (Rect.unit (s := S4x256x8192) ![g.val, 0, 0] S1x256x8192.size hb)) e w)
    (Shape.reshapeEquiv shapeCasts_S1x256x8192_S256x8192 y)

set_option maxHeartbeats 1000000 in
/-- A step before the fourth: it stores its product and starts its copy. -/
theorem step_first (c : Dev nD) (t : Fin cfg0.N) (arg1 : Memref sig .tc .vmem S256x256 .f32) (harg1 : arg1.IsWhole)
    (arg2 : Memref sig .tc .vmem S8192x256 .i8) (harg2 : arg2.IsWhole)
    (hw : ¬Waits4 (grid0.coords t)) (hd : ¬Drains (grid0.coords t))
    (x : Vec F S256x256 .f32) (cb : Vec F S8192x256 .i8) (B : Fin 32 → S256x8192.Idx → F .f32)
    (hB : B (Ring.bk 32 t.val) = product x cb) (W : Waits sig Unit) (K : PUnit → sProp 𝕄) :
    iprop(owns (c : Thread nD τ) arg1 fullShare x ∗ owns (c : Thread nD τ) arg2 fullShare cb
        ∗ ahead c (Ring.bk 32 t.val) ∗ free c (Ring.sl 4 t.val) ∗ owes (c : Thread nD τ) 0 W
        ∗ (iprop(owns (c : Thread nD τ) arg1 fullShare x ∗ owns (c : Thread nD τ) arg2 fullShare cb
            ∗ inFlight c B (Ring.sl 4 t.val) (Ring.bk 32 t.val) ∗ (∃ W', owes (c : Thread nD τ) 0 W')) -∗ K ⟨⟩))
      ⊢ wp frame (wpE (defs₀ (F := F)) Variants.none c none) Set.univ
          (cc0__vote_kernel (grid0.coords t) arg1 harg1 arg2 harg2 (Memref.whole main_call0_v1) (Memref.isWhole_whole _)
            scratch (Memref.isWhole_whole _) cc0_scratch1) K := by
  haveI : Fact (¬Waits4 (grid0.coords t)) := ⟨hw⟩
  haveI : Fact (¬Drains (grid0.coords t)) := ⟨hd⟩
  simp only [cc0__vote_kernel_eq_skeleton]; unfold cc0__vote_kernel_skel
  unfold owns
  iintro ⟨⟨%f0, %hf0, H0⟩, ⟨%f1, %hf1, H1⟩, ⟨%fp, Hp⟩, ⟨Hq, ⟨%e, Ht⟩⟩, HW, Hk⟩
  obtain rfl := harg1.eq_unread hf0; obtain rfl := harg2.eq_unread hf1
  sl_exec (disch := first | sl_exact hw | sl_exact hd)
  sl_step
  iapply Hk
  isplitl [H0]
  · iexists _; isplitr; · ipureintro; exact harg1.read_unread _
    iexact H0
  isplitl [H1]
  · iexists _; isplitr; · ipureintro; exact harg2.read_unread _
    iexact H1
  isplitl [Hq]
  · iexists _, _; isplitr; swap; · iexact Hq
    ipureintro
    refine (delivered (off4_eq t) _ _ _ _ _).trans (.trans ?_ hB.symm)
    unfold product; rw [load_whole harg1, load_whole harg2]
  iexists _; iexact HW

set_option maxHeartbeats 1000000 in
/-- A later step: it waits for the copy of four steps ago, stores its product and starts its copy. -/
theorem step_middle (c : Dev nD) (t : Fin cfg0.N) (arg1 : Memref sig .tc .vmem S256x256 .f32) (harg1 : arg1.IsWhole)
    (arg2 : Memref sig .tc .vmem S8192x256 .i8) (harg2 : arg2.IsWhole)
    (hw : Waits4 (grid0.coords t)) (hd : ¬Drains (grid0.coords t))
    (x : Vec F S256x256 .f32) (cb : Vec F S8192x256 .i8) (B : Fin 32 → S256x8192.Idx → F .f32)
    (hB : B (Ring.bk 32 t.val) = product x cb) (W : Waits sig Unit) (K : PUnit → sProp 𝕄) :
    iprop(owns (c : Thread nD τ) arg1 fullShare x ∗ owns (c : Thread nD τ) arg2 fullShare cb
        ∗ ahead c (Ring.bk 32 t.val) ∗ inFlight c B (Ring.sl 4 t.val) (Ring.bk 32 (t.val - 4)) ∗ owes (c : Thread nD τ) 0 W
        ∗ (iprop(owns (c : Thread nD τ) arg1 fullShare x ∗ owns (c : Thread nD τ) arg2 fullShare cb
            ∗ behind c B (Ring.bk 32 (t.val - 4)) ∗ inFlight c B (Ring.sl 4 t.val) (Ring.bk 32 t.val) ∗ (∃ W', owes (c : Thread nD τ) 0 W')) -∗ K ⟨⟩))
      ⊢ wp frame (wpE (defs₀ (F := F)) Variants.none c none) Set.univ
          (cc0__vote_kernel (grid0.coords t) arg1 harg1 arg2 harg2 (Memref.whole main_call0_v1) (Memref.isWhole_whole _)
            scratch (Memref.isWhole_whole _) cc0_scratch1) K := by
  haveI : Fact (Waits4 (grid0.coords t)) := ⟨hw⟩
  haveI : Fact (¬Drains (grid0.coords t)) := ⟨hd⟩
  simp only [cc0__vote_kernel_eq_skeleton]; unfold cc0__vote_kernel_skel
  unfold owns
  iintro ⟨⟨%f0, %hf0, H0⟩, ⟨%f1, %hf1, H1⟩, ⟨%fp, Hp⟩, ⟨%f4, %e4, %h4, HF⟩, HW, Hk⟩
  obtain rfl := harg1.eq_unread hf0; obtain rfl := harg2.eq_unread hf1
  sl_exec (disch := first | sl_exact hw | sl_exact hd)
  sl_step
  iapply Hk
  isplitl [H0]
  · iexists _; isplitr; · ipureintro; exact harg1.read_unread _
    iexact H0
  isplitl [H1]
  · iexists _; isplitr; · ipureintro; exact harg2.read_unread _
    iexact H1
  isplitl [HF_dst]
  · iexists _; isplitr; · ipureintro; exact h4
    iexact HF_dst
  isplitl [HF]
  · iexists _, _; isplitr; swap; · iexact HF
    ipureintro
    refine (delivered (off4_eq t) _ _ _ _ _).trans (.trans ?_ hB.symm)
    unfold product; rw [load_whole harg1, load_whole harg2]
  iexists _; iexact HW

set_option maxHeartbeats 1000000 in
/-- The last step: it waits for the copy of four steps ago, stores its product, starts its copy, and waits for the last
    four copies. -/
theorem step_last (c : Dev nD) (t : Fin cfg0.N) (arg1 : Memref sig .tc .vmem S256x256 .f32) (harg1 : arg1.IsWhole)
    (arg2 : Memref sig .tc .vmem S8192x256 .i8) (harg2 : arg2.IsWhole)
    (hw : Waits4 (grid0.coords t)) (hd : Drains (grid0.coords t))
    (x : Vec F S256x256 .f32) (cb : Vec F S8192x256 .i8) (B : Fin 32 → S256x8192.Idx → F .f32)
    (hB : B (Ring.bk 32 t.val) = product x cb) (W : Waits sig Unit) (K : PUnit → sProp 𝕄) :
    iprop(owns (c : Thread nD τ) arg1 fullShare x ∗ owns (c : Thread nD τ) arg2 fullShare cb
        ∗ ahead c (Ring.bk 32 t.val) ∗ inFlight c B (Ring.sl 4 t.val) (Ring.bk 32 (t.val - 4))
        ∗ inFlight c B (Ring.sl 4 (t.val + 1)) (Ring.bk 32 (t.val - 3))
        ∗ inFlight c B (Ring.sl 4 (t.val + 2)) (Ring.bk 32 (t.val - 2))
        ∗ inFlight c B (Ring.sl 4 (t.val + 3)) (Ring.bk 32 (t.val - 1)) ∗ owes (c : Thread nD τ) 0 W
        ∗ (iprop(owns (c : Thread nD τ) arg1 fullShare x ∗ owns (c : Thread nD τ) arg2 fullShare cb
            ∗ (behind c B (Ring.bk 32 t.val) ∗ behind c B (Ring.bk 32 (t.val - 1)) ∗ behind c B (Ring.bk 32 (t.val - 2))
              ∗ behind c B (Ring.bk 32 (t.val - 3)) ∗ behind c B (Ring.bk 32 (t.val - 4)))
            ∗ (free c (Ring.sl 4 t.val) ∗ free c (Ring.sl 4 (t.val + 1)) ∗ free c (Ring.sl 4 (t.val + 2))
              ∗ free c (Ring.sl 4 (t.val + 3))) ∗ (∃ W', owes (c : Thread nD τ) 0 W')) -∗ K ⟨⟩))
      ⊢ wp frame (wpE (defs₀ (F := F)) Variants.none c none) Set.univ
          (cc0__vote_kernel (grid0.coords t) arg1 harg1 arg2 harg2 (Memref.whole main_call0_v1) (Memref.isWhole_whole _)
            scratch (Memref.isWhole_whole _) cc0_scratch1) K := by
  haveI : Fact (Waits4 (grid0.coords t)) := ⟨hw⟩
  haveI : Fact (Drains (grid0.coords t)) := ⟨hd⟩
  simp only [cc0__vote_kernel_eq_skeleton]; unfold cc0__vote_kernel_skel
  simp only [k0_part1_eq_skeleton]; unfold k0_part1_skel
  unfold owns
  iintro ⟨⟨%f0, %hf0, H0⟩, ⟨%f1, %hf1, H1⟩, ⟨%fp, Hp⟩, ⟨%f4, %e4, %h4, HF⟩, ⟨%f3, %e3, %h3, H3⟩,
    ⟨%f2, %e2, %h2, H2⟩, ⟨%f1', %e1, %h1, HL⟩, HW, Hk⟩
  obtain rfl := harg1.eq_unread hf0; obtain rfl := harg2.eq_unread hf1
  sl_exec (disch := first | sl_exact hw | sl_exact hd)
  sl_step
  iapply Hk
  isplitl [H0]
  · iexists _; isplitr; · ipureintro; exact harg1.read_unread _
    iexact H0
  isplitl [H1]
  · iexists _; isplitr; · ipureintro; exact harg2.read_unread _
    iexact H1
  isplitl [Hp H3_dst H2_dst HL_dst HF_dst]
  · isplitl [Hp]
    · iexists _; isplitr; swap; · iexact Hp
      ipureintro
      refine (delivered (off4_eq t) _ _ _ _ _).trans (.trans ?_ hB.symm)
      unfold product; rw [load_whole harg1, load_whole harg2]
    isplitl [HL_dst]
    · iexists _; isplitr; · ipureintro; exact h1
      iexact HL_dst
    isplitl [H2_dst]
    · iexists _; isplitr; · ipureintro; exact h2
      iexact H2_dst
    isplitl [H3_dst]
    · iexists _; isplitr; · ipureintro; exact h3
      iexact H3_dst
    iexists _; isplitr; · ipureintro; exact h4
    iexact HF_dst
  isplitl [HF HF_src H3 H3_src H2 H2_src HL HL_src]
  · isplitl [HF HF_src]
    · isplitl [HF]; · iexact HF
      iexists _; iexact HF_src
    isplitl [H3 H3_src]
    · isplitl [H3]; · iexact H3
      iexists _; iexact H3_src
    isplitl [H2 H2_src]
    · isplitl [H2]; · iexact H2
      iexists _; iexact H2_src
    isplitl [HL]; · iexact HL
    iexists _; iexact HL_src
  iexists _; iexact HW

end Cert.KernelIdeal.Vote

end
-- ==== Proof.Body.lean ====
/- The kernel's body at every point of the grid: before step `t` the ring is as the earlier steps leave it, after it
   as step `t` leaves it, and every piece of the result a step has waited for reads as the product its step made. -/
module

public import proofs.«01_k».proof.Proof.Steps

@[expose] public section

set_option maxRecDepth 16384

noncomputable section

namespace Cert.KernelIdeal.Vote

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ)

/-- Step `u` as a point of the grid. -/
def pt (u : Fin 32) : Fin cfg0.N := u.cast N_0.symm
/-- The piece of a step is that step. -/
theorem pt_bk (t : Fin cfg0.N) : pt (Ring.bk 32 t.val) = t :=
  Fin.ext (Ring.bk_val (lt_of_lt_of_eq t.isLt N_0))

/-- The 256 rows step `u` writes: its block of `h` against the codebook. -/
def rows (c : Dev nD) (u : Fin 32) : S256x8192.Idx → F .f32 := product (iblk m c 0 (pt u)) (iblk m c 1 (pt u))
theorem rows_bk (c : Dev nD) (t : Fin cfg0.N) :
    rows m c (Ring.bk 32 t.val) = product (iblk m c 0 t) (iblk m c 1 t) := by
  unfold rows; rw [pt_bk]

/-- What the pipeline's proof is over: the arrays as the region finds them, each window's block left as it was
    fetched, the ring between the steps, nothing owed. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := ringAt c (rows m c) t.val
  q _ := fullShare
  owed _ := 0

theorem A_eq (c : Dev nD) (w : Fin cfg0.W) : (dats m 0 c).A w = V m c (Pipeline.arrRef spec0 w) := by
  dsimp only [dats]
theorem ring_castSucc (c : Dev nD) (t : Fin cfg0.N) : (dats m 0 c).Φ t.castSucc = ringAt c (rows m c) t.val := by
  dsimp only [dats]; simp only [Fin.val_castSucc]
theorem ring_succ (c : Dev nD) (t : Fin cfg0.N) : (dats m 0 c).Φ t.succ = ringAt c (rows m c) (t.val + 1) := by
  dsimp only [dats]; simp only [Fin.val_succ]
theorem after_h (c : Dev nD) (t : Fin cfg0.N) : (dats m 0 c).after 0 t = iblk m c 0 t := by dsimp only [dats]
theorem after_cb (c : Dev nD) (t : Fin cfg0.N) : (dats m 0 c).after 1 t = iblk m c 1 t := by dsimp only [dats]
theorem before_h' (c : Dev nD) (t : Fin cfg0.N) (d) : (dats m 0 c).before 0 t d = iblk m c 0 t :=
  before_h m (dats m 0 c) (A_eq m c 0) (after_h m c) t d
theorem before_cb' (c : Dev nD) (t : Fin cfg0.N) (d) : (dats m 0 c).before 1 t d = iblk m c 1 t :=
  before_cb m (dats m 0 c) (A_eq m c 1) (after_cb m c) t d

/-- What the body is given at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d)))
/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t))

set_option maxHeartbeats 1200000 in
/-- The body at any point: the first four steps, the steps after them, and the last step, each by its own theorem,
    the ring taken apart before it and put together after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_h', before_cb']
  rw [after_h, after_cb, ring_castSucc m c t, ring_succ m c t]
  unfold Dat.owesAt Pipeline.owesWithin
  rw [show (dats m 0 c).owed t.castSucc = 0 from rfl, show (dats m 0 c).owed t.succ = 0 from rfl]
  unfold ringAt
  have hN : t.val < 32 := lt_of_lt_of_eq t.isLt N_0
  rw [Ring.AtBΦ_lt _ _ _ _ _ t.val hN]
  by_cases hw : 4 ≤ t.val
  · rw [RingSteps.steady_here (k := 3) _ _ _ _ t.val hw hN]
    by_cases hd : t.val = 31
    · rw [RingSteps.riding_four _ _ t.val (by omega), Ring.AtBΦ_end _ _ _ _ _ (t.val + 1) (by omega),
        RingSteps.drained_four _ _ t.val hw (by omega)]
      iintro ⟨⟨⟨Hp, -⟩, HB, HF, H3, H2, HL⟩, ⟨%W, -, HW⟩, ⟨%d0, H0⟩, ⟨%d1, H1⟩⟩
      iapply (step_last c t _ _ _ _ ((waits4_iff t).mpr hw) ((drains_iff t).mpr hd) (iblk m c 0 t) (iblk m c 1 t)
        (rows m c) (rows_bk m c t) W _)
      isplitl [H0]; · iexact H0
      isplitl [H1]; · iexact H1
      isplitl [Hp]; · iexact Hp
      isplitl [HF]; · iexact HF
      isplitl [H3]; · iexact H3
      isplitl [H2]; · iexact H2
      isplitl [HL]; · iexact HL
      isplitl [HW]; · iexact HW
      iintro ⟨H0, H1, ⟨B0, B1, B2, B3, B4⟩, HG, ⟨%W', HW'⟩⟩
      isplitl [B0 B1 B2 B3 B4 HB HG]
      · isplitl [B0 B1 B2 B3 B4 HB]
        · isplitl [B0]; · iexact B0
          isplitl [B1]; · iexact B1
          isplitl [B2]; · iexact B2
          isplitl [B3]; · iexact B3
          isplitl [B4]; · iexact B4
          iexact HB
        iexact HG
      isplitl [HW']
      · iexists W'; isplitr; · ipureintro; exact fun _ _ => Or.inl trivial
        iexact HW'
      isplitl [H0]; · iexact H0
      iexact H1
    · rw [Ring.AtBΦ_lt _ _ _ _ _ (t.val + 1) (by omega), RingSteps.steady_next (k := 3) _ _ _ _ t.val hw hN]
      iintro ⟨⟨⟨Hp, HA⟩, HB, HF, HR⟩, ⟨%W, -, HW⟩, ⟨%d0, H0⟩, ⟨%d1, H1⟩⟩
      iapply (step_middle c t _ _ _ _ ((waits4_iff t).mpr hw) (fun h => hd ((drains_iff t).mp h)) (iblk m c 0 t)
        (iblk m c 1 t) (rows m c) (rows_bk m c t) W _)
      isplitl [H0]; · iexact H0
      isplitl [H1]; · iexact H1
      isplitl [Hp]; · iexact Hp
      isplitl [HF]; · iexact HF
      isplitl [HW]; · iexact HW
      iintro ⟨H0, H1, B4, HF, ⟨%W', HW'⟩⟩
      isplitl [HA B4 HB HF HR]
      · isplitl [HA]; · iexact HA
        isplitl [B4 HB]
        · isplitl [B4]; · iexact B4
          iexact HB
        isplitl [HF]; · iexact HF
        iexact HR
      isplitl [HW']
      · iexists W'; isplitr; · ipureintro; exact fun _ _ => Or.inl trivial
        iexact HW'
      isplitl [H0]; · iexact H0
      iexact H1
  · rw [RingSteps.boot_here (k := 3) _ _ _ _ t.val (by omega) hN, Ring.AtBΦ_lt _ _ _ _ _ (t.val + 1) (by omega),
      RingSteps.boot_next (k := 3) _ _ _ _ t.val (by omega)]
    iintro ⟨⟨⟨Hp, HA⟩, HF, HR⟩, ⟨%W, -, HW⟩, ⟨%d0, H0⟩, ⟨%d1, H1⟩⟩
    iapply (step_first c t _ _ _ _ (fun h => hw ((waits4_iff t).mp h)) (fun h => hw (by have := (drains_iff t).mp h; omega))
      (iblk m c 0 t) (iblk m c 1 t) (rows m c) (rows_bk m c t) W _)
    isplitl [H0]; · iexact H0
    isplitl [H1]; · iexact H1
    isplitl [Hp]; · iexact Hp
    isplitl [HF]; · iexact HF
    isplitl [HW]; · iexact HW
    iintro ⟨H0, H1, HF, ⟨%W', HW'⟩⟩
    isplitl [HA HF HR]
    · isplitl [HA]; · iexact HA
      isplitl [HF]; · iexact HF
      iexact HR
    isplitl [HW']
    · iexists W'; isplitr; · ipureintro; exact fun _ _ => Or.inl trivial
      iexact HW'
    isplitl [H0]; · iexact H0
    iexact H1

/-- The body the pipeline calls at point `t`. -/
theorem defs₀_row (t : Fin cfg0.N) :
    defs₀ (F := F) .tc cfg0.body (cfg0.bodyArgs t (cfg0.slots t)) = bodyAt0 t := by
  unfold defs₀; rw [Defs.onTc_tc]

/-- The body is sound at every point. -/
theorem body_obligation (c : Dev nD) :
    BodyObligation (dats (F := F) m 0 c) (defs₀ (F := F)) Variants.none () Set.univ := fun t => by
  rw [bigSep_W0, bigSep_W0, defs₀_row]
  exact triple_restated (sound_body m c t) rfl .rfl fun _ => .rfl

end Cert.KernelIdeal.Vote

end
-- ==== Proof.Launch.lean ====
/- The launch: what the region is handed makes the ring before the first step, the ring after the last step gives the
   result whole, row `256 u + r` at row `r` of what step `u` wrote; and the run of `main` that follows. -/
module

public import proofs.«01_k».proof.Proof.Body
public import Idealize.ShloMosaic.Lib.ValueIdxCore
public import Idealize.ShloMosaic.Lib.ViewIndex

@[expose] public section

set_option maxRecDepth 16384

noncomputable section

namespace Cert.KernelIdeal.Vote

open Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The result, piece by piece -/

/-- The result the 32 steps write: row `i` is row `i mod 256` of what step `i / 256` wrote. -/
def written (c : Dev nD) : S8192x8192.Idx → F .f32 := fun i =>
  rows m c ⟨(i 0).val / 256, by have := idx2_lt0 i; omega⟩
    (ix2 ⟨(i 0).val % 256, Nat.mod_lt _ (by decide)⟩ ⟨(i 1).val, idx2_lt1 i⟩)

/-- Where piece `u`'s entry `x` lies in the result, -/
def pieceEntry (u : Fin 32) (x : S256x8192.Idx) : S8192x8192.Idx := (piece u).view.emb x
/-- by coordinates. -/
theorem pieceEntry_val (u : Fin 32) (x : S256x8192.Idx) :
    (pieceEntry u x 0).val = 256 * u.val + (x 0).val ∧ (pieceEntry u x 1).val = (x 1).val := by
  constructor
  · show 256 * u.val + 1 * (x 0).val = _; omega
  · show 0 + 1 * (x 1).val = _; omega

/-- At piece `u`'s entry `x` the result is entry `x` of what step `u` wrote. -/
theorem written_piece (c : Dev nD) (u : Fin 32) (x : S256x8192.Idx) :
    written m c (pieceEntry u x) = rows m c u x := by
  obtain ⟨h0, h1⟩ := pieceEntry_val u x
  have hx := idx2_lt0 x
  unfold written
  have eu : (⟨(pieceEntry u x 0).val / 256, by have := idx2_lt0 (pieceEntry u x); omega⟩ : Fin 32) = u :=
    Fin.ext (by show _ / 256 = _; rw [h0]; omega)
  have er : (⟨(pieceEntry u x 0).val % 256, Nat.mod_lt _ (by decide)⟩ : Fin 256) = x 0 :=
    Fin.ext (by show _ % 256 = _; rw [h0]; omega)
  have ec : (⟨(pieceEntry u x 1).val, idx2_lt1 (pieceEntry u x)⟩ : Fin 8192) = x 1 := Fin.ext h1
  rw [eu, er, ec]
  exact congrArg (rows m c u) (eq_ix2 x).symm

/-- A piece whose buffer reads as what step `u` wrote agrees with the result on the piece. -/
theorem agrees (c : Dev nD) (u : Fin 32) (f : BufAt (F := F) c (piece u))
    (hf : (piece u).view.read (Elt F) f = rows m c u) (i) (hi : i ∈ (piece u).view.set) : f i = written m c i := by
  obtain ⟨x, -, rfl⟩ := Finset.mem_map.mp hi
  exact (congrFun hf x).trans (written_piece m c u x).symm

/-- A piece that reads as what its step wrote is held at the result. -/
theorem behind_written (c : Dev nD) (u : Fin 32) : behind c (rows m c) u ⊢ (pieceAt c u (written m c) : sProp 𝕄) := by
  iintro ⟨%f, %hf, H⟩
  iapply (Entails.of_eq (pointsTo_congr (agrees m c u f hf)))
  iexact H

/-! ## Whole buffers and their parts -/

/-- The tiles fill the scratch, the pieces the result. -/
theorem tiles_cover : Finset.univ.biUnion tileSet = Finset.univ :=
  Ring.lead_cover (s := S4x256x8192) (NB := 4) 0 1 tileOff S1x256x8192.size tile_inb (fun g => by simp [tileOff])
    (fun g a h => by fin_cases a <;> simp_all [tileOff]) rfl (fun a h => by fin_cases a <;> simp_all) rfl
theorem pieces_cover : Finset.univ.biUnion pieceSet = Finset.univ :=
  Ring.lead_cover (s := S8192x8192) (NB := 32) 0 256 pieceOff S256x8192.size piece_inb (fun u => by simp [pieceOff])
    (fun u a h => by fin_cases a <;> simp_all [pieceOff]) rfl (fun a h => by fin_cases a <;> simp_all) rfl

theorem tileAt_eq (c : Dev nD) (g : Fin 4) (e) :
    (tileAt (F := F) c g e : sProp 𝕄) = ((c : Thread nD τ).loc cc0_scratch0 ↦[tileSet g]{fullShare} e) := by
  unfold tileAt; rw [tileSet_eq]; rfl
theorem pieceAt_eq (c : Dev nD) (u : Fin 32) (f) :
    (pieceAt (F := F) c u f : sProp 𝕄) = ((c : Thread nD τ).loc main_call0_v1 ↦[pieceSet u]{fullShare} f) := by
  unfold pieceAt; rw [pieceSet_eq]; rfl

/-- The scratch is its four tiles. -/
theorem tiles_in (c : Dev nD) : iprop(∃ f, (c : Thread nD τ).loc cc0_scratch0 ↦{fullShare} f)
    ⊢ (bigSep Finset.univ fun g => iprop(∃ e, tileAt (F := F) c g e) : sProp 𝕄) :=
  Ring.pieces_split (U := Pipeline.UD sig nD τ) (ℓ := (c : Thread nD τ).loc cc0_scratch0) (q := fullShare) tileSet
    tiles_disjoint tiles_cover (fun g e => tileAt c g e) (tileAt_eq c)
theorem tiles_out (c : Dev nD) : (bigSep Finset.univ fun g => iprop(∃ e, tileAt (F := F) c g e) : sProp 𝕄)
    ⊢ iprop(∃ f, (c : Thread nD τ).loc cc0_scratch0 ↦{fullShare} f) :=
  Ring.pieces_join (U := Pipeline.UD sig nD τ) (ℓ := (c : Thread nD τ).loc cc0_scratch0) (q := fullShare) tileSet
    tiles_disjoint tiles_cover (fun g e => tileAt c g e) (tileAt_eq c) (fun _ => Classical.choice (Elt.nonempty F _))
/-- The result is its 32 pieces; -/
theorem pieces_in (c : Dev nD) : iprop(∃ f, (c : Thread nD τ).loc main_call0_v1 ↦{fullShare} f)
    ⊢ (bigSep Finset.univ fun u => ahead (F := F) c u : sProp 𝕄) :=
  Ring.pieces_split (U := Pipeline.UD sig nD τ) (ℓ := (c : Thread nD τ).loc main_call0_v1) (q := fullShare) pieceSet
    pieces_disjoint pieces_cover (fun u f => pieceAt c u f) (pieceAt_eq c)
/-- and the pieces, once all are written, are the result the steps write. -/
theorem pieces_out (c : Dev nD) : (bigSep Finset.univ fun u => behind c (rows m c) u : sProp 𝕄)
    ⊢ ((c : Thread nD τ).loc main_call0_v1 ↦{fullShare} written m c : sProp 𝕄) := by
  rw [Ring.pointsTo_blocks (ℓ := (c : Thread nD τ).loc main_call0_v1) pieceSet pieces_disjoint pieces_cover]
  exact BI.bigSep_mono (s := Finset.univ) fun u _ => (behind_written m c u).trans (Entails.of_eq (pieceAt_eq c u _))

/-! ## Into the region and out of it -/

/-- The kernel's own semaphores. -/
abbrev osem0 : Fin 4 → SemLoc sig := cellLoc
theorem ownSemFacts0 : Pipeline.OwnSemFacts spec0 osem0 := by decide
/-- The one buffer the body writes by copies of its own: the result; it reads none that way. -/
def H0 : Finset (Ref sig .tc) := {}
def R0 : Finset (Ref sig .tc) := {main_call0_v1}
theorem H0_sub : H0 ⊆ Pipeline.restRefs sig spec0 := by decide
theorem R0_sub : R0 ⊆ Pipeline.restRefs sig spec0 \ H0 := by decide

/-- What the region leaves in the buffers beside the windows: the result at what the steps wrote. -/
def left (c : Dev nD) : (b : Ref sig .tc) → Buf (Elt F) ((c : Thread nD τ).loc b) :=
  Function.update (V m c) main_call0_v1 (written m c)
theorem left_result (c : Dev nD) : left m c main_call0_v1 = written m c := Function.update_self _ _ _

/-- What the launch holds beside the windows: the scratch at anything, the semaphores at zero, the result at `G`. -/
theorem beside (G : (c : Dev nD) → (b : Ref sig .tc) → Buf (Elt F) ((c : Thread nD τ).loc b)) (c : Dev nD) :
    (Pipeline.ΦDRV osem0 spec0 H0 R0 (V m) G c : sProp 𝕄)
      = iprop((∃ f, (c : Thread nD τ).loc cc0_scratch0 ↦{fullShare} f) ∗ (bigSep Finset.univ fun g => cellZero c g)
          ∗ BI.emp ∗ (c : Thread nD τ).loc main_call0_v1 ↦{fullShare} G c main_call0_v1) := by
  unfold Pipeline.ΦDRV Pipeline.ownSems0 H0 R0
  rw [scopedRest0_eq, bigSep_singleton, bigSep_empty]

theorem hin (c : Dev nD) : Pipeline.ΦDRV osem0 spec0 H0 R0 (V m) (V m) c ⊢ (dats m 0 c).Φ 0 := by
  rw [beside, show (dats m 0 c).Φ 0 = ringAt c (rows m c) 0 from rfl]
  unfold ringAt
  rw [Ring.AtBΦ_lt _ _ _ _ _ 0 (by decide), Ring.AtB_zero]; unfold Ring.AtB₀
  rw [BI.bigSep_sep']
  iintro ⟨HS, HQ, -, HR⟩
  isplitl [HR]
  · iapply (pieces_in (F := F) c); iexists _; iexact HR
  isplitl [HQ]; · iexact HQ
  iapply (tiles_in (F := F) c); iexact HS

theorem hout (c : Dev nD) :
    (dats m 0 c).Φ (Fin.last cfg0.N) ⊢ Pipeline.ΦDRV osem0 spec0 H0 R0 (V m) (left m) c := by
  rw [beside, left_result, show (dats m 0 c).Φ (Fin.last cfg0.N) = ringAt c (rows m c) grid0.N from rfl, N_0]
  unfold ringAt
  rw [Ring.AtBΦ_ge _ _ _ _ _ 32 (by decide)]; unfold Ring.AtBEnd
  rw [BI.bigSep_sep']
  iintro ⟨HR, HQ, HS⟩
  isplitl [HS]; · iapply (tiles_out (F := F) c); iexact HS
  isplitl [HQ]; · iexact HQ
  isplitr; · iempintro
  iapply (pieces_out m c); iexact HR

/-! ## The run -/

set_option backward.isDefEq.respectTransparency.types false in
set_option maxHeartbeats 800000 in
/-- The run of `main`: it ends with each window's array as the region found it, every other buffer as the last host
    line leaves it from what the region left, and every semaphore at zero. -/
theorem run_main : θ_run defs (onTc (τ := τ) (main (F := F))) (s₀ m ρ) (fun r => (∀ c : Dev nD,
      (∀ w, r.2.mem ((spec0 w).arr.view.loc (c.tc : Thread nD τ)) = (dats m 0 c).arrAt w cfg0.N)
      ∧ ∀ b ∈ Pipeline.restRefs sig spec0, r.2.mem ((c.tc : Thread nD τ).loc b)
          = StableHlo.after [hostOps1].flatten (Pipeline.withArrays spec0 c (Pipeline.withR (V0 m c) R0 c (left m c))
              fun w => (dats m 0 c).arrAt w cfg0.N) (Proc.devRef .tc b))
      ∧ r.2.sem = fun _ => 0) :=
  Pipeline.θ_run_frame_dmaR_aroundV (Q' := _) cfgs (dats m) (0 : Fin 1) launch0 osem0 defs₀ Variants.none ownSemFacts0
    H0 R0 H0_sub R0_sub m ρ main
    (hbody := fun c => (body_obligation m c).loose) (hshare := fun c => (dats m 0 c).share_full fun _ => rfl)
    (howed := fun _ _ => rfl) (V₀ := V0 m) (opss := [hostOps1]) (hsub := after_sub) (hfresh := after_fresh)
    (hkeep := after_keeps) (G := left m) (hmain := hmain m Variants.none) (hA := A_eq m) (hin := hin m) (hout := hout m)

end Cert.KernelIdeal.Vote

end
-- ==== Proof.Result.lean ====
/- What the whole program leaves: the result is what the 32 steps wrote, laid out as 4 by 2048 by 8192, and the two
   arguments are as they were. -/
module

public import proofs.«01_k».proof.Proof.Launch
public import Idealize.ShloMosaic.Lib.Claim

@[expose] public section

set_option maxRecDepth 16384

noncomputable section

namespace Cert.KernelIdeal.Vote

open Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-- The program's result: the rows written, as 4 by 2048 by 8192. -/
def outcome (c : Dev nD) : S4x2048x8192.Idx → F .f32 :=
  shapeCast S4x2048x8192 (written m c) shapeCasts_S8192x8192_S4x2048x8192

/-- The array the window of `h` shows in blocks is `h` laid out as 8192 rows. -/
theorem V_rows (c : Dev nD) :
    V m c main_call0_v0 = shapeCast S8192x256 (m ((c : Thread nD τ).loc main_arg0)) shapeCasts_S4x2048x256_S8192x256 := by
  unfold V V0
  simp only [hostOps0, List.flatten_cons, List.flatten_nil, List.append_nil]
  after_results
  rfl

/-- After the last host line the result is the written rows as 4 by 2048 by 8192. -/
theorem after_result (c : Dev nD) (A) :
    StableHlo.after [hostOps1].flatten (Pipeline.withArrays spec0 c (Pipeline.withR (V0 m c) R0 c (left m c)) A)
      (Proc.devRef .tc main_v0) = outcome m c := by
  simp only [hostOps1, List.flatten_cons, List.flatten_nil, List.append_nil]
  after_results
  rw [Pipeline.withArrays_of_ne spec0 c _ _ main_call0_v1 (by decide),
    Pipeline.withR_of_mem _ _ _ _ main_call0_v1 (by decide), left_result]
  rfl

/-- After the last host line `h` is as launched. -/
theorem after_arg0 (c : Dev nD) (A) :
    StableHlo.after [hostOps1].flatten (Pipeline.withArrays spec0 c (Pipeline.withR (V0 m c) R0 c (left m c)) A)
      (Proc.devRef .tc main_arg0) = m ((c : Thread nD τ).loc main_arg0) := by
  simp only [hostOps1, List.flatten_cons, List.flatten_nil, List.append_nil]
  after_results
  rw [Pipeline.withArrays_of_ne spec0 c _ _ main_arg0 (by decide),
    Pipeline.withR_of_not_mem _ _ _ _ main_arg0 (by decide)]
  exact V_of_ne m c main_arg0 (by decide)

/-- Every run ends with the result at `outcome`, the arguments unchanged and every semaphore at zero. -/
theorem run : θ_run defs (onTc (τ := τ) (main (F := F))) ⟨m, fun _ => 0, ρ⟩ (fun r => (∀ c : Dev nD,
      r.2.mem ((c.tc : Thread nD τ).loc main_v0) = outcome m c
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨((h.1 c).2 main_v0 (Pipeline.mem_restRefs_of main_v0 (by decide) (by decide))).trans (after_result m c _),
      ((h.1 c).2 main_arg0 (Pipeline.mem_restRefs_of main_arg0 (by decide) (by decide))).trans (after_arg0 m c _),
      ((h.1 c).1 1).trans (((dats m 0 c).arrAt_in 1 rfl _).trans ((A_eq m c 1).trans (V_of_ne m c main_arg1 (by decide))))⟩,
    h.2⟩) (run_main m ρ)

/-- Every run ends with the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h.1 c).2, h.2⟩) (run m ρ)

end Cert.KernelIdeal.Vote

end
-- ==== Proof.Same.lean ====
/- The kernel and its idealization are one program: no operation was rewritten between the two. What is proved of the
   idealization at any float values therefore holds of the kernel. -/
module

public import proofs.«01_k».proof.Defs
public import proofs.«01_k».proof.Proof.Gen.Kernel
public import proofs.«01_k».proof.Proof.Result

@[expose] public section

set_option maxRecDepth 16384

noncomputable section

namespace Cert.Proof.Same

open Idealize.ShloMosaic Idealize.ShloMosaic.TcCoe Idealize.SL.Sem

variable {F : FTy → Type} [FloatOps F]

/-- The two programs have the same host lines. -/
theorem main_eq : Cert.Kernel.main (F := F) = Cert.KernelIdeal.main := rfl

/-- The two kernels have the same body. -/
theorem body_eq : Cert.Kernel.defs₀ (F := F) = Cert.KernelIdeal.defs₀ := by
  unfold Cert.Kernel.defs₀ Cert.KernelIdeal.defs₀
  refine congrArg (Defs.onTc (nD := 1) (τ := Cert.Kernel.τ) (sig := Cert.Kernel.sig) (Val := Elt F)
    (Λ := Cert.Kernel.Λ₀)) ?_
  funext l a
  match l, a with
  | 0, (t, s) => rfl

/-- The two programs call the same functions. -/
theorem defs_eq : Cert.Kernel.defs (F := F) = Cert.KernelIdeal.defs := by
  unfold Cert.Kernel.defs Cert.KernelIdeal.defs
  rw [body_eq]
  rfl

/-- Every run of the kernel ends with its arguments unchanged and every semaphore at zero. -/
theorem frame : Cert.quiescent_Kernel := by
  intro m ρ _
  rw [defs_eq, main_eq]
  exact Cert.KernelIdeal.Vote.frame (F := Bits) m ρ

end Cert.Proof.Same

end
-- ==== Proof.Reference.lean ====
/- The reference's runs: what they leave in the result is the generated term (`Cert.ReferenceIdeal.Value.run`); here,
   that they leave the arguments as they were and every semaphore at zero. -/
module

public import proofs.«01_k».proof.Defs
public import proofs.«01_k».proof.Proof.Gen.ReferenceIdeal.Run
public import Idealize.ShloMosaic.Lib.Claim

@[expose] public section

noncomputable section

namespace Cert.Proof.Reference

open Idealize.ShloMosaic Idealize.ShloMosaic.TcCoe Idealize.SL.Sem

/-- Every run of the reference ends with its arguments unchanged and, since it declares no semaphore, every counter
    at zero. -/
theorem frame : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Proof.Reference

end
-- ==== Proof.Vote.lean ====
/- One entry of the product over the extended reals: a sum over the 256 places of a row's vote times a codebook entry. -/
module

public import proofs.«01_k».proof.Proof.Steps
public import Idealize.ShloMosaic.Lib.Pointwise
public import Idealize.ShloMosaic.Lib.IdealHost

@[expose] public section

set_option maxRecDepth 16384

noncomputable section

namespace Cert.KernelIdeal.Vote

open Cert.KernelIdeal.Gen
open Idealize.ShloMosaic Idealize.ShloMosaic.TcCoe

/-- The vote of `a`: minus one below zero, one elsewhere. -/
def vote (a : EReal) : EReal := if a < 0 then -1 else 1

/-- The vote by the sign: the sign where it is not zero, one where it is. -/
theorem vote_eq_sign (a : EReal) : vote a = if Ideal.sign a = 0 then 1 else Ideal.sign a := by
  unfold vote
  rcases lt_trichotomy a 0 with h | rfl | h
  · rw [Ideal.sign_of_neg h]; simp [h]
  · rw [Ideal.sign_zero]; simp
  · rw [Ideal.sign_of_pos h]; simp [h.le]

/-- Entry `(r, v)` of a block's product: row `r`'s votes against codebook row `v`. -/
theorem product_apply (x : FVec Ideal S256x256 .f32) (cb : IVec S8192x256 8) (r : Fin 256) (v : Fin 8192) :
    product (F := Ideal) x cb (ix2 r v)
      = ∑ k : Fin 256, vote (x (ix2 r k)) * (((cb (ix2 v k)).toInt : ℝ) : EReal) := by
  unfold product
  unfold_payloads
  pointwise
  rw [show Ideal.ofBits .f32 0xBF800000#32 = -1 from IdealRules.sign_bit.ideal_negOnePat .f32]
  rfl

end Cert.KernelIdeal.Vote

end
-- ==== Proof.Entry.lean ====
/- One entry of the kernel's result: the votes of a row of `h` against a row of the codebook. -/
module

public import proofs.«01_k».proof.Proof.Result
public import proofs.«01_k».proof.Proof.Vote
public import Idealize.ShloMosaic.Lib.Pipeline.ValueKit

@[expose] public section

set_option maxRecDepth 16384

noncomputable section

namespace Cert.KernelIdeal.Vote

open Cert.KernelIdeal.Gen
open Idealize.ShloMosaic Idealize.ShloMosaic.TcCoe

/-- At point `t` the window of `h` is on block `t` of its rows. -/
theorem index_h : ∀ t : Fin cfg0.N, win0_0.index t = ![t.val, 0] := by decide +kernel
/-- At every point the window of the codebook is on its one block. -/
theorem index_cb : ∀ t : Fin cfg0.N, win0_1.index t = ![0, 0] := by decide +kernel

section
variable {F : FTy → Type} [FloatOps F]
variable (m : (ℓ : Loc nD τ sig) → Buf (Elt F) ℓ)

/-- Block `u` of the rows of `h`, at `(r, k)`: row `256 u + r` of the 8192. -/
theorem iblk_h (c : Dev nD) (u : Fin 32) (r k : Fin 256) :
    (iblk m c 0 (pt u) : S256x256.Idx → F .f32) (ix2 r k)
      = V m c main_call0_v0 (ix2 (⟨256 * u.val + r.val, by omega⟩ : Fin 8192) k) := by
  blk_ext [iblk, index_h]
  show u.val * 256 + r.val = 256 * u.val + r.val
  omega

/-- The codebook's block is the codebook. -/
theorem iblk_cb (c : Dev nD) (u : Fin 32) :
    (iblk m c 1 (pt u) : S8192x256.Idx → BitVec 8) = m ((c : Thread nD τ).loc main_arg1) := by
  funext j
  rw [← V_of_ne m c main_arg1 (by decide)]
  blk_ext [iblk, index_cb]

/-- An array of 4 by 2048 rows laid out as 8192 rows has row `(b, t)` at `2048 b + t`. -/
theorem rows_apply {α : Type} (x : S4x2048x256.Idx → α) (b : Fin 4) (t : Fin 2048) (k : Fin 256) :
    shapeCast S8192x256 x shapeCasts_S4x2048x256_S8192x256 (ix2 (⟨b.val * 2048 + t.val, by omega⟩ : Fin 8192) k)
      = x (ix3 b t k) := by
  pointwise
  blk_ext []

/-- The rows written, at row `R`: row `R mod 256` of step `R / 256`. -/
theorem written_apply (c : Dev nD) (R v : Fin 8192) :
    written m c (ix2 R v) = rows m c (⟨R.val / 256, by omega⟩ : Fin 32) (ix2 (⟨R.val % 256, by omega⟩ : Fin 256) v) := rfl
end

/-- Entry `(b, t, v)` of the kernel's result: the votes of row `(b, t)` of `h` against row `v` of the codebook. -/
theorem outcome_apply (m : (ℓ : Loc nD τ sig) → Buf (Elt Ideal) ℓ) (c : Dev nD) (b : Fin 4) (t : Fin 2048) (v : Fin 8192) :
    outcome m c (ix3 b t v) = ∑ k : Fin 256, vote (m ((c : Thread nD τ).loc main_arg0) (ix3 b t k))
      * (((m ((c : Thread nD τ).loc main_arg1) (ix2 v k) : BitVec 8).toInt : ℝ) : EReal) := by
  unfold outcome
  pointwise
  rw [written_apply]
  unfold rows
  rw [product_apply]
  refine Finset.sum_congr rfl fun k _ => ?_
  rw [iblk_h, iblk_cb, V_rows, ← rows_apply (m ((c : Thread nD τ).loc main_arg0)) b t k]
  have e : (⟨256 * ((b.val * 2048 + t.val) / 256) + (b.val * 2048 + t.val) % 256, by omega⟩ : Fin 8192)
      = ⟨b.val * 2048 + t.val, by omega⟩ := Fin.ext (Nat.div_add_mod _ 256)
  exact congrArg (fun R : Fin 8192 => vote (shapeCast S8192x256 (m ((c : Thread nD τ).loc main_arg0))
    shapeCasts_S4x2048x256_S8192x256 (ix2 R k)) * _) e

end Cert.KernelIdeal.Vote

end
-- ==== Proof.RefEntry.lean ====
/- One entry of the reference over the extended reals: the same sum of votes times codebook entries. -/
module

public import proofs.«01_k».proof.Proof.Vote
public import proofs.«01_k».proof.Proof.Gen.ReferenceIdeal.Run

@[expose] public section

set_option maxRecDepth 16384

noncomputable section

namespace Cert.Proof.Reference

open Cert.ReferenceIdeal Cert.ReferenceIdeal.Gen
open Idealize.ShloMosaic Idealize.ShloMosaic.TcCoe
open Cert.KernelIdeal.Vote (vote vote_eq_sign)

/-- What the reference computes from `h` and the codebook, as printed: the signs of `h`, one where the sign is zero,
    against the transposed codebook. -/
def value (h : FVec Ideal S4x2048x256 .f32) (cb : IVec S8192x256 8) : FVec Ideal S4x2048x8192 .f32 :=
  Host.dotGeneral dot_S4x2048x256_S256x8192_S4x2048x8192_2_0_01_1_n_n none
    (select (cmpf .oeq (Host.sign h) (broadcastInDim S4x2048x256 ![] bcast_S_S4x2048x256 (constant S_ .f32 0x00000000#32)))
      (broadcastInDim S4x2048x256 ![] bcast_S_S4x2048x256 (constant S_ .f32 0x3F800000#32)) (Host.sign h))
    (transpose S256x8192 [1, 0] (sitofp .f32 (extsi 32 cb natLt_8_32)) transposes_S8192x256_S256x8192_1_0)

/-- Entry `(b, t, v)` of the reference: the votes of row `(b, t)` of `h` against row `v` of the codebook. -/
theorem value_apply (h : FVec Ideal S4x2048x256 .f32) (cb : IVec S8192x256 8) (b : Fin 4) (t : Fin 2048) (v : Fin 8192) :
    value h cb (ix3 b t v) = ∑ k : Fin 256, vote (h (ix3 b t k)) * (((cb (ix2 v k)).toInt : ℝ) : EReal) := by
  unfold value
  simp only [vote_eq_sign]
  pointwise
  refine Finset.sum_congr rfl fun k _ => congrArg _ ?_
  exact congrArg (fun z : ℤ => ((z : ℝ) : EReal)) (BitVec.toInt_signExtend_of_le (by decide))

end Cert.Proof.Reference

end
-- ==== Proof.Equation.lean ====
/- The two sides meet: entry by entry the kernel's result is the reference's, so on the same arguments both end with the
   same array. -/
module

public import proofs.«01_k».proof.Defs
public import proofs.«01_k».proof.Proof.Entry
public import proofs.«01_k».proof.Proof.RefEntry

@[expose] public section

set_option maxRecDepth 16384

noncomputable section

namespace Cert.Proof.Equation

open Idealize.ShloMosaic Idealize.ShloMosaic.TcCoe Idealize.SL.Sem
open Cert.KernelIdeal.Vote (outcome outcome_apply)

/-- The kernel's result is the reference's value of its two arguments. -/
theorem outcome_eq (m : (ℓ : Loc Cert.KernelIdeal.nD Cert.KernelIdeal.τ Cert.KernelIdeal.sig) → Buf (Elt Ideal) ℓ)
    (c : Dev Cert.KernelIdeal.nD) :
    outcome m c = Reference.value (m ((c.tc : Thread _ Cert.KernelIdeal.τ).loc Cert.KernelIdeal.main_arg0))
      (m ((c.tc : Thread _ Cert.KernelIdeal.τ).loc Cert.KernelIdeal.main_arg1)) := by
  funext i
  obtain ⟨b, t, v, rfl⟩ : ∃ (b : Fin 4) (t : Fin 2048) (v : Fin 8192), i = ix3 b t v := ⟨i 0, i 1, i 2, eq_ix3 i⟩
  rw [outcome_apply, Reference.value_apply]

/-- Kernel and reference, launched on the same arguments, end with the same array, their arguments unchanged. -/
theorem equal : Cert.algebraic_KernelIdeal_ReferenceIdeal := by
  intro m g m' g' _ hargs
  refine ⟨outcome m, (θ_run Cert.KernelIdeal.defs _ _).mono (fun _ h => h.1) (Cert.KernelIdeal.Vote.run m g),
    (θ_run Cert.ReferenceIdeal.defs _ _).mono (fun _ h c => ⟨(h c).1.trans ?_, (h c).2⟩)
      (Cert.ReferenceIdeal.Value.run (F := Ideal) m' g')⟩
  rw [outcome_eq, (hargs c).1, (hargs c).2]
  rfl

end Cert.Proof.Equation

end
-- ==== Proof.lean ====
/- The kernel, its idealization and the reference run to the end, leave their arguments as they were and every semaphore
   at zero; the idealization is the kernel's own text; and idealized kernel and reference, on the same arguments, end
   with the same array. -/
module

public import proofs.«01_k».proof.Defs
public import proofs.«01_k».proof.Proof.Same
public import proofs.«01_k».proof.Proof.Reference
public import proofs.«01_k».proof.Proof.Equation

@[expose] public section

noncomputable section

namespace Cert.Proof

/-- Everything claimed: the three frames, the idealization, and the equality of the two results. -/
theorem claim : Cert.Claim :=
  ⟨Cert.Kernel.Gen.facts, Cert.KernelIdeal.Gen.facts, Cert.ReferenceIdeal.Gen.facts,
    Same.frame, fun m ρ _ => Cert.KernelIdeal.Vote.frame m ρ, Reference.frame, trivial, Equation.equal⟩

end Cert.Proof

end
